-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x16x25 : Shape := ⟨3, ![1024, 16, 25]⟩
abbrev S1024x12x25 : Shape := ⟨3, ![1024, 12, 25]⟩
abbrev S1024x128 : Shape := ⟨2, ![1024, 128]⟩
abbrev S2x32 : Shape := ⟨2, ![2, 32]⟩
abbrev S2x24 : Shape := ⟨2, ![2, 24]⟩
abbrev S32x1x3 : Shape := ⟨3, ![32, 1, 3]⟩
abbrev S32 : Shape := ⟨1, ![32]⟩
abbrev S800x64 : Shape := ⟨2, ![800, 64]⟩
abbrev S64 : Shape := ⟨1, ![64]⟩
abbrev S128x64 : Shape := ⟨2, ![128, 64]⟩
abbrev S1856x128 : Shape := ⟨2, ![1856, 128]⟩
abbrev S128 : Shape := ⟨1, ![128]⟩
abbrev S128x1 : Shape := ⟨2, ![128, 1]⟩
abbrev S1 : Shape := ⟨1, ![1]⟩
abbrev S1792x128 : Shape := ⟨2, ![1792, 128]⟩
abbrev S_ : Shape := ⟨0, ![]⟩

class Facts : Prop where
  slices_S1856x128_S1792x128_0_0 : S1856x128.Slices ![0, 0] S1792x128
  bcast_S_S1024x16x25 : S_.BroadcastsInDim S1024x16x25 (![] : Fin 0 → Fin S1024x16x25.rank)
  bcast_S_S1024x12x25 : S_.BroadcastsInDim S1024x12x25 (![] : Fin 0 → Fin S1024x12x25.rank)
  bcast_S_S32x1x3 : S_.BroadcastsInDim S32x1x3 (![] : Fin 0 → Fin S32x1x3.rank)
  bcast_S_S32 : S_.BroadcastsInDim S32 (![] : Fin 0 → Fin S32.rank)
  bcast_S_S800x64 : S_.BroadcastsInDim S800x64 (![] : Fin 0 → Fin S800x64.rank)
  bcast_S_S64 : S_.BroadcastsInDim S64 (![] : Fin 0 → Fin S64.rank)
  bcast_S_S1792x128 : S_.BroadcastsInDim S1792x128 (![] : Fin 0 → Fin S1792x128.rank)
  bcast_S_S2x32 : S_.BroadcastsInDim S2x32 (![] : Fin 0 → Fin S2x32.rank)
  bcast_S_S2x24 : S_.BroadcastsInDim S2x24 (![] : Fin 0 → Fin S2x24.rank)

variable [Facts]

def fn_part2 {F : FTy → Type} [FloatOps F] (main_arg3 : IVec S2x32 32) (main_arg4 : IVec S2x24 32) (main_v0 : FVec F S1792x128 .f32) (main_v3 : IVec S1024x16x25 1) (main_v6 : IVec S1024x12x25 1) (main_v9 : IVec S32x1x3 1) (main_v12 : IVec S32 1) (main_v15 : IVec S32x1x3 1) (main_v18 : IVec S32 1) (main_v21 : IVec S800x64 1) (main_v24 : IVec S800x64 1) (main_v27 : IVec S64 1) (main_v30 : IVec S800x64 1) (main_v33 : IVec S800x64 1) (main_v34 : FVec F S64 .f32) (main_v35 : FVec F S64 .f32) : IVec S1024x16x25 1 × IVec S1024x12x25 1 × IVec S32x1x3 1 × IVec S32 1 × IVec S32x1x3 1 × IVec S32 1 × IVec S800x64 1 × IVec S800x64 1 × IVec S64 1 × IVec S800x64 1 × IVec S800x64 1 × IVec S64 1 × IVec S1792x128 1 × IVec S2x32 1 × IVec S2x24 1 :=
  let main_v36 : IVec S64 1 := cmpf .olt main_v34 main_v35
  let main_v37 : FVec F S1792x128 .f32 := Host.absf main_v0
  let main_cst_11 : FVec F S_ .f32 := constant S_ .f32 0x7F800000#32
  let main_v38 : FVec F S1792x128 .f32 := broadcastInDim S1792x128 ![] bcast_S_S1792x128 main_cst_11
  let main_v39 : IVec S1792x128 1 := cmpf .olt main_v37 main_v38
  let main_c : IVec S_ 32 := constantI S_ 32 0#32
  let main_v40 : IVec S2x32 32 := broadcastInDim S2x32 ![] bcast_S_S2x32 main_c
  let main_v41 : IVec S2x32 1 := cmpi .sge main_arg3 main_v40
  let main_c_12 : IVec S_ 32 := constantI S_ 32 16#32
  let main_v42 : IVec S2x32 32 := broadcastInDim S2x32 ![] bcast_S_S2x32 main_c_12
  let main_v43 : IVec S2x32 1 := cmpi .slt main_arg3 main_v42
  let main_v44 : IVec S2x32 1 := andi main_v41 main_v43
  let main_c_13 : IVec S_ 32 := constantI S_ 32 0#32
  let main_v45 : IVec S2x24 32 := broadcastInDim S2x24 ![] bcast_S_S2x24 main_c_13
  let main_v46 : IVec S2x24 1 := cmpi .sge main_arg4 main_v45
  let main_c_14 : IVec S_ 32 := constantI S_ 32 12#32
  let main_v47 : IVec S2x24 32 := broadcastInDim S2x24 ![] bcast_S_S2x24 main_c_14
  let main_v48 : IVec S2x24 1 := cmpi .slt main_arg4 main_v47
  let main_v49 : IVec S2x24 1 := andi main_v46 main_v48
  (main_v3, main_v6, main_v9, main_v12, main_v15, main_v18, main_v21, main_v24, main_v27, main_v30, main_v33, main_v36, main_v39, main_v44, main_v49)

def fn_part1 {F : FTy → Type} [FloatOps F] (main_arg3 : IVec S2x32 32) (main_arg4 : IVec S2x24 32) (main_arg9 : FVec F S800x64 .f32) (main_arg10 : FVec F S800x64 .f32) (main_arg11 : FVec F S64 .f32) (main_arg12 : FVec F S800x64 .f32) (main_arg13 : FVec F S800x64 .f32) (main_arg14 : FVec F S64 .f32) (main_v0 : FVec F S1792x128 .f32) (main_v3 : IVec S1024x16x25 1) (main_v6 : IVec S1024x12x25 1) (main_v9 : IVec S32x1x3 1) (main_v12 : IVec S32 1) (main_v15 : IVec S32x1x3 1) (main_v16 : FVec F S32 .f32) (main_v17 : FVec F S32 .f32) : IVec S1024x16x25 1 × IVec S1024x12x25 1 × IVec S32x1x3 1 × IVec S32 1 × IVec S32x1x3 1 × IVec S32 1 × IVec S800x64 1 × IVec S800x64 1 × IVec S64 1 × IVec S800x64 1 × IVec S800x64 1 × IVec S64 1 × IVec S1792x128 1 × IVec S2x32 1 × IVec S2x24 1 :=
  let main_v18 : IVec S32 1 := cmpf .olt main_v16 main_v17
  let main_v19 : FVec F S800x64 .f32 := Host.absf main_arg9
  let main_cst_5 : FVec F S_ .f32 := constant S_ .f32 0x7F800000#32
  let main_v20 : FVec F S800x64 .f32 := broadcastInDim S800x64 ![] bcast_S_S800x64 main_cst_5
  let main_v21 : IVec S800x64 1 := cmpf .olt main_v19 main_v20
  let main_v22 : FVec F S800x64 .f32 := Host.absf main_arg10
  let main_cst_6 : FVec F S_ .f32 := constant S_ .f32 0x7F800000#32
  let main_v23 : FVec F S800x64 .f32 := broadcastInDim S800x64 ![] bcast_S_S800x64 main_cst_6
  let main_v24 : IVec S800x64 1 := cmpf .olt main_v22 main_v23
  let main_v25 : FVec F S64 .f32 := Host.absf main_arg11
  let main_cst_7 : FVec F S_ .f32 := constant S_ .f32 0x7F800000#32
  let main_v26 : FVec F S64 .f32 := broadcastInDim S64 ![] bcast_S_S64 main_cst_7
  let main_v27 : IVec S64 1 := cmpf .olt main_v25 main_v26
  let main_v28 : FVec F S800x64 .f32 := Host.absf main_arg12
  let main_cst_8 : FVec F S_ .f32 := constant S_ .f32 0x7F800000#32
  let main_v29 : FVec F S800x64 .f32 := broadcastInDim S800x64 ![] bcast_S_S800x64 main_cst_8
  let main_v30 : IVec S800x64 1 := cmpf .olt main_v28 main_v29
  let main_v31 : FVec F S800x64 .f32 := Host.absf main_arg13
  let main_cst_9 : FVec F S_ .f32 := constant S_ .f32 0x7F800000#32
  let main_v32 : FVec F S800x64 .f32 := broadcastInDim S800x64 ![] bcast_S_S800x64 main_cst_9
  let main_v33 : IVec S800x64 1 := cmpf .olt main_v31 main_v32
  let main_v34 : FVec F S64 .f32 := Host.absf main_arg14
  let main_cst_10 : FVec F S_ .f32 := constant S_ .f32 0x7F800000#32
  let main_v35 : FVec F S64 .f32 := broadcastInDim S64 ![] bcast_S_S64 main_cst_10
  fn_part2 (F := F) main_arg3 main_arg4 main_v0 main_v3 main_v6 main_v9 main_v12 main_v15 main_v18 main_v21 main_v24 main_v27 main_v30 main_v33 main_v34 main_v35

def fn {F : FTy → Type} [FloatOps F] (main_arg0 : FVec F S1024x16x25 .f32) (main_arg1 : FVec F S1024x12x25 .f32) (main_arg2 : FVec F S1024x128 .f32) (main_arg3 : IVec S2x32 32) (main_arg4 : IVec S2x24 32) (main_arg5 : FVec F S32x1x3 .f32) (main_arg6 : FVec F S32 .f32) (main_arg7 : FVec F S32x1x3 .f32) (main_arg8 : FVec F S32 .f32) (main_arg9 : FVec F S800x64 .f32) (main_arg10 : FVec F S800x64 .f32) (main_arg11 : FVec F S64 .f32) (main_arg12 : FVec F S800x64 .f32) (main_arg13 : FVec F S800x64 .f32) (main_arg14 : FVec F S64 .f32) (main_arg15 : FVec F S128x64 .f32) (main_arg16 : FVec F S64 .f32) (main_arg17 : FVec F S1856x128 .f32) (main_arg18 : FVec F S128 .f32) (main_arg19 : FVec F S128x1 .f32) (main_arg20 : FVec F S1 .f32) : IVec S1024x16x25 1 × IVec S1024x12x25 1 × IVec S32x1x3 1 × IVec S32 1 × IVec S32x1x3 1 × IVec S32 1 × IVec S800x64 1 × IVec S800x64 1 × IVec S64 1 × IVec S800x64 1 × IVec S800x64 1 × IVec S64 1 × IVec S1792x128 1 × IVec S2x32 1 × IVec S2x24 1 :=
  let main_v0 : FVec F S1792x128 .f32 := (extractStridedSlice S1792x128 ![0, 0] · slices_S1856x128_S1792x128_0_0) main_arg17
  let main_v1 : FVec F S1024x16x25 .f32 := Host.absf main_arg0
  let main_cst : FVec F S_ .f32 := constant S_ .f32 0x7F800000#32
  let main_v2 : FVec F S1024x16x25 .f32 := broadcastInDim S1024x16x25 ![] bcast_S_S1024x16x25 main_cst
  let main_v3 : IVec S1024x16x25 1 := cmpf .olt main_v1 main_v2
  let main_v4 : FVec F S1024x12x25 .f32 := Host.absf main_arg1
  let main_cst_0 : FVec F S_ .f32 := constant S_ .f32 0x7F800000#32
  let main_v5 : FVec F S1024x12x25 .f32 := broadcastInDim S1024x12x25 ![] bcast_S_S1024x12x25 main_cst_0
  let main_v6 : IVec S1024x12x25 1 := cmpf .olt main_v4 main_v5
  let main_v7 : FVec F S32x1x3 .f32 := Host.absf main_arg5
  let main_cst_1 : FVec F S_ .f32 := constant S_ .f32 0x7F800000#32
  let main_v8 : FVec F S32x1x3 .f32 := broadcastInDim S32x1x3 ![] bcast_S_S32x1x3 main_cst_1
  let main_v9 : IVec S32x1x3 1 := cmpf .olt main_v7 main_v8
  let main_v10 : FVec F S32 .f32 := Host.absf main_arg6
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_v13 : FVec F S32x1x3 .f32 := Host.absf main_arg7
  let main_cst_3 : FVec F S_ .f32 := constant S_ .f32 0x7F800000#32
  let main_v14 : FVec F S32x1x3 .f32 := broadcastInDim S32x1x3 ![] bcast_S_S32x1x3 main_cst_3
  let main_v15 : IVec S32x1x3 1 := cmpf .olt main_v13 main_v14
  let main_v16 : FVec F S32 .f32 := Host.absf main_arg8
  let main_cst_4 : FVec F S_ .f32 := constant S_ .f32 0x7F800000#32
  let main_v17 : FVec F S32 .f32 := broadcastInDim S32 ![] bcast_S_S32 main_cst_4
  fn_part1 (F := F) main_arg3 main_arg4 main_arg9 main_arg10 main_arg11 main_arg12 main_arg13 main_arg14 main_v0 main_v3 main_v6 main_v9 main_v12 main_v15 main_v16 main_v17
-- ==== Kernel.lean ====
abbrev S1024x16x25 : Shape := ⟨3, ![1024, 16, 25]⟩
abbrev S1024x12x25 : Shape := ⟨3, ![1024, 12, 25]⟩
abbrev S1024x128 : Shape := ⟨2, ![1024, 128]⟩
abbrev S2x32 : Shape := ⟨2, ![2, 32]⟩
abbrev S2x24 : Shape := ⟨2, ![2, 24]⟩
abbrev S32x1x3 : Shape := ⟨3, ![32, 1, 3]⟩
abbrev S32 : Shape := ⟨1, ![32]⟩
abbrev S800x64 : Shape := ⟨2, ![800, 64]⟩
abbrev S64 : Shape := ⟨1, ![64]⟩
abbrev S128x64 : Shape := ⟨2, ![128, 64]⟩
abbrev S1856x128 : Shape := ⟨2, ![1856, 128]⟩
abbrev S128 : Shape := ⟨1, ![128]⟩
abbrev S128x1 : Shape := ⟨2, ![128, 1]⟩
abbrev S1 : Shape := ⟨1, ![1]⟩
abbrev S1024x400 : Shape := ⟨2, ![1024, 400]⟩
abbrev S1024x300 : Shape := ⟨2, ![1024, 300]⟩
abbrev S1x64 : Shape := ⟨2, ![1, 64]⟩
abbrev S1x1 : Shape := ⟨2, ![1, 1]⟩
abbrev S1x128 : Shape := ⟨2, ![1, 128]⟩
abbrev S32x3 : Shape := ⟨2, ![32, 3]⟩
abbrev S1x32 : Shape := ⟨2, ![1, 32]⟩
abbrev S1024x1 : Shape := ⟨2, ![1024, 1]⟩
abbrev S_ : Shape := ⟨0, ![]⟩
abbrev S512x400 : Shape := ⟨2, ![512, 400]⟩
abbrev S512x300 : Shape := ⟨2, ![512, 300]⟩
abbrev S512x128 : Shape := ⟨2, ![512, 128]⟩
abbrev S768x128 : Shape := ⟨2, ![768, 128]⟩
abbrev S25x800 : Shape := ⟨2, ![25, 800]⟩
abbrev S32x800 : Shape := ⟨2, ![32, 800]⟩
abbrev S400x25 : Shape := ⟨2, ![400, 25]⟩
abbrev S64x1024 : Shape := ⟨2, ![64, 1024]⟩
abbrev S400x16 : Shape := ⟨2, ![400, 16]⟩
abbrev S16x1024 : Shape := ⟨2, ![16, 1024]⟩
abbrev S3x800 : Shape := ⟨2, ![3, 800]⟩
abbrev S1x800 : Shape := ⟨2, ![1, 800]⟩
abbrev S25x64 : Shape := ⟨2, ![25, 64]⟩
abbrev S16x32 : Shape := ⟨2, ![16, 32]⟩
abbrev S16x16 : Shape := ⟨2, ![16, 16]⟩
abbrev S32x1 : Shape := ⟨2, ![32, 1]⟩
abbrev S16x1 : Shape := ⟨2, ![16, 1]⟩
abbrev S1x16 : Shape := ⟨2, ![1, 16]⟩
abbrev S400x64 : Shape := ⟨2, ![400, 64]⟩
abbrev S400x1024 : Shape := ⟨2, ![400, 1024]⟩
abbrev S400x128 : Shape := ⟨2, ![400, 128]⟩
abbrev S64x128 : Shape := ⟨2, ![64, 128]⟩
abbrev S1x1024 : Shape := ⟨2, ![1, 1024]⟩
abbrev S300x25 : Shape := ⟨2, ![300, 25]⟩
abbrev S64x768 : Shape := ⟨2, ![64, 768]⟩
abbrev S300x12 : Shape := ⟨2, ![300, 12]⟩
abbrev S12x768 : Shape := ⟨2, ![12, 768]⟩
abbrev S1x24 : Shape := ⟨2, ![1, 24]⟩
abbrev S12x24 : Shape := ⟨2, ![12, 24]⟩
abbrev S12x12 : Shape := ⟨2, ![12, 12]⟩
abbrev S24x1 : Shape := ⟨2, ![24, 1]⟩
abbrev S12x1 : Shape := ⟨2, ![12, 1]⟩
abbrev S1x12 : Shape := ⟨2, ![1, 12]⟩
abbrev S300x64 : Shape := ⟨2, ![300, 64]⟩
abbrev S300x768 : Shape := ⟨2, ![300, 768]⟩
abbrev S300x128 : Shape := ⟨2, ![300, 128]⟩
abbrev S1x768 : Shape := ⟨2, ![1, 768]⟩
abbrev S1024x64 : Shape := ⟨2, ![1024, 64]⟩

abbrev nBuf : Space → Nat
  | .hbm => 33
  | .vmem => 22
  | .smem => 0
  | _ => 0

abbrev bufTy : (tb : Table) → Fin (tcTables nBuf tb) → BufTy
  | .hbm, ⟨0, _⟩ => ⟨S1024x16x25, .f32⟩
  | .hbm, ⟨1, _⟩ => ⟨S1024x12x25, .f32⟩
  | .hbm, ⟨2, _⟩ => ⟨S1024x128, .f32⟩
  | .hbm, ⟨3, _⟩ => ⟨S2x32, .i32⟩
  | .hbm, ⟨4, _⟩ => ⟨S2x24, .i32⟩
  | .hbm, ⟨5, _⟩ => ⟨S32x1x3, .f32⟩
  | .hbm, ⟨6, _⟩ => ⟨S32, .f32⟩
  | .hbm, ⟨7, _⟩ => ⟨S32x1x3, .f32⟩
  | .hbm, ⟨8, _⟩ => ⟨S32, .f32⟩
  | .hbm, ⟨9, _⟩ => ⟨S800x64, .f32⟩
  | .hbm, ⟨10, _⟩ => ⟨S800x64, .f32⟩
  | .hbm, ⟨11, _⟩ => ⟨S64, .f32⟩
  | .hbm, ⟨12, _⟩ => ⟨S800x64, .f32⟩
  | .hbm, ⟨13, _⟩ => ⟨S800x64, .f32⟩
  | .hbm, ⟨14, _⟩ => ⟨S64, .f32⟩
  | .hbm, ⟨15, _⟩ => ⟨S128x64, .f32⟩
  | .hbm, ⟨16, _⟩ => ⟨S64, .f32⟩
  | .hbm, ⟨17, _⟩ => ⟨S1856x128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S1024x400, .f32⟩
  | .hbm, ⟨22, _⟩ => ⟨S1024x300, .f32⟩
  | .hbm, ⟨23, _⟩ => ⟨S1x64, .f32⟩
  | .hbm, ⟨24, _⟩ => ⟨S1x1, .f32⟩
  | .hbm, ⟨25, _⟩ => ⟨S1x128, .f32⟩
  | .hbm, ⟨26, _⟩ => ⟨S32x3, .f32⟩
  | .hbm, ⟨27, _⟩ => ⟨S1x32, .f32⟩
  | .hbm, ⟨28, _⟩ => ⟨S1x64, .f32⟩
  | .hbm, ⟨29, _⟩ => ⟨S32x3, .f32⟩
  | .hbm, ⟨30, _⟩ => ⟨S1x32, .f32⟩
  | .hbm, ⟨31, _⟩ => ⟨S1x64, .f32⟩
  | .hbm, ⟨32, _⟩ => ⟨S1024x1, .f32⟩
  | .local _ .vmem, ⟨0, _⟩ => ⟨S128x64, .f32⟩
  | .local _ .vmem, ⟨1, _⟩ => ⟨S1x64, .f32⟩
  | .local _ .vmem, ⟨2, _⟩ => ⟨S128x1, .f32⟩
  | .local _ .vmem, ⟨3, _⟩ => ⟨S1x1, .f32⟩
  | .local _ .vmem, ⟨4, _⟩ => ⟨S1856x128, .f32⟩
  | .local _ .vmem, ⟨5, _⟩ => ⟨S1x128, .f32⟩
  | .local _ .vmem, ⟨6, _⟩ => ⟨S32x3, .f32⟩
  | .local _ .vmem, ⟨7, _⟩ => ⟨S1x32, .f32⟩
  | .local _ .vmem, ⟨8, _⟩ => ⟨S800x64, .f32⟩
  | .local _ .vmem, ⟨9, _⟩ => ⟨S800x64, .f32⟩
  | .local _ .vmem, ⟨10, _⟩ => ⟨S1x64, .f32⟩
  | .local _ .vmem, ⟨11, _⟩ => ⟨S2x32, .i32⟩
  | .local _ .vmem, ⟨12, _⟩ => ⟨S32x3, .f32⟩
  | .local _ .vmem, ⟨13, _⟩ => ⟨S1x32, .f32⟩
  | .local _ .vmem, ⟨14, _⟩ => ⟨S800x64, .f32⟩
  | .local _ .vmem, ⟨15, _⟩ => ⟨S800x64, .f32⟩
  | .local _ .vmem, ⟨16, _⟩ => ⟨S1x64, .f32⟩
  | .local _ .vmem, ⟨17, _⟩ => ⟨S2x24, .i32⟩
  | .local _ .vmem, ⟨18, _⟩ => ⟨S1024x1, .f32⟩
  | .local _ .vmem, ⟨19, _⟩ => ⟨S1024x400, .f32⟩
  | .local _ .vmem, ⟨20, _⟩ => ⟨S1024x300, .f32⟩
  | .local _ .vmem, ⟨21, _⟩ => ⟨S1024x128, .f32⟩
  | _, _ => ⟨S1024x16x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v0 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1856x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S800x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S800x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x32 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S800x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S800x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x24 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S1024x16x25 : Shape := ⟨3, ![1024, 16, 25]⟩
abbrev S1024x12x25 : Shape := ⟨3, ![1024, 12, 25]⟩
abbrev S1024x128 : Shape := ⟨2, ![1024, 128]⟩
abbrev S2x32 : Shape := ⟨2, ![2, 32]⟩
abbrev S2x24 : Shape := ⟨2, ![2, 24]⟩
abbrev S32x1x3 : Shape := ⟨3, ![32, 1, 3]⟩
abbrev S32 : Shape := ⟨1, ![32]⟩
abbrev S800x64 : Shape := ⟨2, ![800, 64]⟩
abbrev S64 : Shape := ⟨1, ![64]⟩
abbrev S128x64 : Shape := ⟨2, ![128, 64]⟩
abbrev S1856x128 : Shape := ⟨2, ![1856, 128]⟩
abbrev S128 : Shape := ⟨1, ![128]⟩
abbrev S128x1 : Shape := ⟨2, ![128, 1]⟩
abbrev S1 : Shape := ⟨1, ![1]⟩
abbrev S16384x25 : Shape := ⟨2, ![16384, 25]⟩
abbrev S_ : Shape := ⟨0, ![]⟩
abbrev S16384x27 : Shape := ⟨2, ![16384, 27]⟩
abbrev S32x1x1 : Shape := ⟨3, ![32, 1, 1]⟩
abbrev S1x32x1 : Shape := ⟨3, ![1, 32, 1]⟩
abbrev S16384x1x25 : Shape := ⟨3, ![16384, 1, 25]⟩
abbrev S16384x32x25 : Shape := ⟨3, ![16384, 32, 25]⟩
abbrev S1024x16x800 : Shape := ⟨3, ![1024, 16, 800]⟩
abbrev S1x32 : Shape := ⟨2, ![1, 32]⟩
abbrev S16 : Shape := ⟨1, ![16]⟩
abbrev S32x1 : Shape := ⟨2, ![32, 1]⟩
abbrev S1024x32x800 : Shape := ⟨3, ![1024, 32, 800]⟩
abbrev S1024x16x64 : Shape := ⟨3, ![1024, 16, 64]⟩
abbrev S1x1x64 : Shape := ⟨3, ![1, 1, 64]⟩
abbrev S12288x25 : Shape := ⟨2, ![12288, 25]⟩
abbrev S12288x27 : Shape := ⟨2, ![12288, 27]⟩
abbrev S12288x1x25 : Shape := ⟨3, ![12288, 1, 25]⟩
abbrev S12288x32x25 : Shape := ⟨3, ![12288, 32, 25]⟩
abbrev S1024x12x800 : Shape := ⟨3, ![1024, 12, 800]⟩
abbrev S1x24 : Shape := ⟨2, ![1, 24]⟩
abbrev S24 : Shape := ⟨1, ![24]⟩
abbrev S12 : Shape := ⟨1, ![12]⟩
abbrev S24x1 : Shape := ⟨2, ![24, 1]⟩
abbrev S1024x24x800 : Shape := ⟨3, ![1024, 24, 800]⟩
abbrev S1x24x1 : Shape := ⟨3, ![1, 24, 1]⟩
abbrev S1024x12x64 : Shape := ⟨3, ![1024, 12, 64]⟩
abbrev S1024x1024 : Shape := ⟨2, ![1024, 1024]⟩
abbrev S1024x768 : Shape := ⟨2, ![1024, 768]⟩
abbrev S1024x1792 : Shape := ⟨2, ![1024, 1792]⟩
abbrev S1024x64 : Shape := ⟨2, ![1024, 64]⟩
abbrev S1x64 : Shape := ⟨2, ![1, 64]⟩
abbrev S1024x1856 : Shape := ⟨2, ![1024, 1856]⟩
abbrev S1x128 : Shape := ⟨2, ![1, 128]⟩
abbrev S1024x1 : Shape := ⟨2, ![1024, 1]⟩
abbrev S1x1 : Shape := ⟨2, ![1, 1]⟩

abbrev nBuf : Space → Nat
  | .hbm => 293
  | .vmem => 0
  | .smem => 0
  | _ => 0

abbrev hbmTy0_0 (i : Nat) : BufTy := match i % 128 with
  | 0 => ⟨S1024x16x25, .f32⟩
  | 1 => ⟨S1024x12x25, .f32⟩
  | 2 => ⟨S1024x128, .f32⟩
  | 3 => ⟨S2x32, .i32⟩
  | 4 => ⟨S2x24, .i32⟩
  | 5 => ⟨S32x1x3, .f32⟩
  | 6 => ⟨S32, .f32⟩
  | 7 => ⟨S32x1x3, .f32⟩
  | 8 => ⟨S32, .f32⟩
  | 9 => ⟨S800x64, .f32⟩
  | 10 => ⟨S800x64, .f32⟩
  | 11 => ⟨S64, .f32⟩
  | 12 => ⟨S800x64, .f32⟩
  | 13 => ⟨S800x64, .f32⟩
  | 14 => ⟨S64, .f32⟩
  | 15 => ⟨S128x64, .f32⟩
  | 16 => ⟨S64, .f32⟩
  | 17 => ⟨S1856x128, .f32⟩
  | 18 => ⟨S128, .f32⟩
  | 19 => ⟨S128x1, .f32⟩
  | 20 => ⟨S1, .f32⟩
  | 21 => ⟨S16384x25, .f32⟩
  | 22 => ⟨S_, .i32⟩
  | 23 => ⟨S_, .f32⟩
  | 24 => ⟨S16384x27, .f32⟩
  | 25 => ⟨S32x1x1, .f32⟩
  | 26 => ⟨S32, .f32⟩
  | 27 => ⟨S1x32x1, .f32⟩
  | 28 => ⟨S16384x25, .f32⟩
  | 29 => ⟨S16384x1x25, .f32⟩
  | 30 => ⟨S16384x32x25, .f32⟩
  | 31 => ⟨S16384x32x25, .f32⟩
  | 32 => ⟨S16384x32x25, .f32⟩
  | 33 => ⟨S_, .f32⟩
  | 34 => ⟨S16384x32x25, .f32⟩
  | 35 => ⟨S16384x32x25, .f32⟩
  | 36 => ⟨S32x1x1, .f32⟩
  | 37 => ⟨S32, .f32⟩
  | 38 => ⟨S1x32x1, .f32⟩
  | 39 => ⟨S16384x25, .f32⟩
  | 40 => ⟨S16384x1x25, .f32⟩
  | 41 => ⟨S16384x32x25, .f32⟩
  | 42 => ⟨S16384x32x25, .f32⟩
  | 43 => ⟨S16384x32x25, .f32⟩
  | 44 => ⟨S16384x32x25, .f32⟩
  | 45 => ⟨S32x1x1, .f32⟩
  | 46 => ⟨S32, .f32⟩
  | 47 => ⟨S1x32x1, .f32⟩
  | 48 => ⟨S16384x25, .f32⟩
  | 49 => ⟨S16384x1x25, .f32⟩
  | 50 => ⟨S16384x32x25, .f32⟩
  | 51 => ⟨S16384x32x25, .f32⟩
  | 52 => ⟨S16384x32x25, .f32⟩
  | 53 => ⟨S16384x32x25, .f32⟩
  | 54 => ⟨S1x32x1, .f32⟩
  | 55 => ⟨S16384x32x25, .f32⟩
  | 56 => ⟨S16384x32x25, .f32⟩
  | 57 => ⟨S1024x16x800, .f32⟩
  | 58 => ⟨S1x32, .i32⟩
  | 59 => ⟨S32, .i32⟩
  | 60 => ⟨S1x32, .i32⟩
  | 61 => ⟨S32, .i32⟩
  | 62 => ⟨S_, .f32⟩
  | 63 => ⟨S16, .f32⟩
  | 64 => ⟨S_, .f32⟩
  | 65 => ⟨S32, .f32⟩
  | 66 => ⟨S_, .i32⟩
  | 67 => ⟨S32, .i32⟩
  | 68 => ⟨S32, .i1⟩
  | 69 => ⟨S_, .i32⟩
  | 70 => ⟨S32, .i32⟩
  | 71 => ⟨S32, .i32⟩
  | 72 => ⟨S32, .i32⟩
  | 73 => ⟨S32x1, .i32⟩
  | 74 => ⟨S16, .f32⟩
  | 75 => ⟨S_, .f32⟩
  | 76 => ⟨S16, .f32⟩
  | 77 => ⟨S16, .i1⟩
  | 78 => ⟨S_, .f32⟩
  | 79 => ⟨S16, .f32⟩
  | 80 => ⟨S16, .i1⟩
  | 81 => ⟨S_, .f32⟩
  | 82 => ⟨S_, .f32⟩
  | 83 => ⟨S16, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S_, .f32⟩
  | 91 => ⟨S16, .f32⟩
  | 92 => ⟨S16, .f32⟩
  | 93 => ⟨S_, .i32⟩
  | 94 => ⟨S32, .i32⟩
  | 95 => ⟨S32, .i1⟩
  | 96 => ⟨S_, .i32⟩
  | 97 => ⟨S32, .i32⟩
  | 98 => ⟨S32, .i32⟩
  | 99 => ⟨S32, .i32⟩
  | 100 => ⟨S32x1, .i32⟩
  | 101 => ⟨S32, .f32⟩
  | 102 => ⟨S_, .i32⟩
  | 103 => ⟨S32, .i32⟩
  | 104 => ⟨S32, .i1⟩
  | 105 => ⟨S_, .i32⟩
  | 106 => ⟨S32, .i32⟩
  | 107 => ⟨S32, .i32⟩
  | 108 => ⟨S32, .i32⟩
  | 109 => ⟨S32x1, .i32⟩
  | 110 => ⟨S32, .f32⟩
  | 111 => ⟨S32, .f32⟩
  | 112 => ⟨S32, .f32⟩
  | 113 => ⟨S_, .i32⟩
  | 114 => ⟨S32, .i32⟩
  | 115 => ⟨S32, .i1⟩
  | 116 => ⟨S_, .i32⟩
  | 117 => ⟨S32, .i32⟩
  | 118 => ⟨S32, .i32⟩
  | 119 => ⟨S32, .i32⟩
  | 120 => ⟨S32x1, .i32⟩
  | 121 => ⟨S1024x32x800, .f32⟩
  | 122 => ⟨S1x32x1, .f32⟩
  | 123 => ⟨S1024x32x800, .f32⟩
  | 124 => ⟨S1024x32x800, .f32⟩
  | 125 => ⟨S_, .f32⟩
  | 126 => ⟨S1024x16x800, .f32⟩
  | 127 => ⟨S_, .i32⟩
  | _ => ⟨S1024x16x25, .f32⟩

abbrev hbmTy0_1 (i : Nat) : BufTy := match i % 128 with
  | 0 => ⟨S32, .i32⟩
  | 1 => ⟨S32, .i1⟩
  | 2 => ⟨S_, .i32⟩
  | 3 => ⟨S32, .i32⟩
  | 4 => ⟨S32, .i32⟩
  | 5 => ⟨S32, .i32⟩
  | 6 => ⟨S32x1, .i32⟩
  | 7 => ⟨S1024x16x800, .f32⟩
  | 8 => ⟨S1024x16x64, .f32⟩
  | 9 => ⟨S1024x16x64, .f32⟩
  | 10 => ⟨S1024x16x64, .f32⟩
  | 11 => ⟨S1x1x64, .f32⟩
  | 12 => ⟨S1024x16x64, .f32⟩
  | 13 => ⟨S1024x16x64, .f32⟩
  | 14 => ⟨S12288x25, .f32⟩
  | 15 => ⟨S_, .i32⟩
  | 16 => ⟨S_, .f32⟩
  | 17 => ⟨S12288x27, .f32⟩
  | 18 => ⟨S32x1x1, .f32⟩
  | 19 => ⟨S32, .f32⟩
  | 20 => ⟨S1x32x1, .f32⟩
  | 21 => ⟨S12288x25, .f32⟩
  | 22 => ⟨S12288x1x25, .f32⟩
  | 23 => ⟨S12288x32x25, .f32⟩
  | 24 => ⟨S12288x32x25, .f32⟩
  | 25 => ⟨S12288x32x25, .f32⟩
  | 26 => ⟨S_, .f32⟩
  | 27 => ⟨S12288x32x25, .f32⟩
  | 28 => ⟨S12288x32x25, .f32⟩
  | 29 => ⟨S32x1x1, .f32⟩
  | 30 => ⟨S32, .f32⟩
  | 31 => ⟨S1x32x1, .f32⟩
  | 32 => ⟨S12288x25, .f32⟩
  | 33 => ⟨S12288x1x25, .f32⟩
  | 34 => ⟨S12288x32x25, .f32⟩
  | 35 => ⟨S12288x32x25, .f32⟩
  | 36 => ⟨S12288x32x25, .f32⟩
  | 37 => ⟨S12288x32x25, .f32⟩
  | 38 => ⟨S32x1x1, .f32⟩
  | 39 => ⟨S32, .f32⟩
  | 40 => ⟨S1x32x1, .f32⟩
  | 41 => ⟨S12288x25, .f32⟩
  | 42 => ⟨S12288x1x25, .f32⟩
  | 43 => ⟨S12288x32x25, .f32⟩
  | 44 => ⟨S12288x32x25, .f32⟩
  | 45 => ⟨S12288x32x25, .f32⟩
  | 46 => ⟨S12288x32x25, .f32⟩
  | 47 => ⟨S1x32x1, .f32⟩
  | 48 => ⟨S12288x32x25, .f32⟩
  | 49 => ⟨S12288x32x25, .f32⟩
  | 50 => ⟨S1024x12x800, .f32⟩
  | 51 => ⟨S1x24, .i32⟩
  | 52 => ⟨S24, .i32⟩
  | 53 => ⟨S1x24, .i32⟩
  | 54 => ⟨S24, .i32⟩
  | 55 => ⟨S_, .f32⟩
  | 56 => ⟨S12, .f32⟩
  | 57 => ⟨S_, .f32⟩
  | 58 => ⟨S24, .f32⟩
  | 59 => ⟨S_, .i32⟩
  | 60 => ⟨S24, .i32⟩
  | 61 => ⟨S24, .i1⟩
  | 62 => ⟨S_, .i32⟩
  | 63 => ⟨S24, .i32⟩
  | 64 => ⟨S24, .i32⟩
  | 65 => ⟨S24, .i32⟩
  | 66 => ⟨S24x1, .i32⟩
  | 67 => ⟨S12, .f32⟩
  | 68 => ⟨S_, .f32⟩
  | 69 => ⟨S12, .f32⟩
  | 70 => ⟨S12, .i1⟩
  | 71 => ⟨S_, .f32⟩
  | 72 => ⟨S12, .f32⟩
  | 73 => ⟨S12, .i1⟩
  | 74 => ⟨S_, .f32⟩
  | 75 => ⟨S_, .f32⟩
  | 76 => ⟨S12, .f32⟩
  | 77 => ⟨S12, .f32⟩
  | 78 => ⟨S12, .f32⟩
  | 79 => ⟨S_, .f32⟩
  | 80 => ⟨S12, .f32⟩
  | 81 => ⟨S12, .f32⟩
  | 82 => ⟨S_, .f32⟩
  | 83 => ⟨S_, .f32⟩
  | 84 => ⟨S12, .f32⟩
  | 85 => ⟨S12, .f32⟩
  | 86 => ⟨S_, .i32⟩
  | 87 => ⟨S24, .i32⟩
  | 88 => ⟨S24, .i1⟩
  | 89 => ⟨S_, .i32⟩
  | 90 => ⟨S24, .i32⟩
  | 91 => ⟨S24, .i32⟩
  | 92 => ⟨S24, .i32⟩
  | 93 => ⟨S24x1, .i32⟩
  | 94 => ⟨S24, .f32⟩
  | 95 => ⟨S_, .i32⟩
  | 96 => ⟨S24, .i32⟩
  | 97 => ⟨S24, .i1⟩
  | 98 => ⟨S_, .i32⟩
  | 99 => ⟨S24, .i32⟩
  | 100 => ⟨S24, .i32⟩
  | 101 => ⟨S24, .i32⟩
  | 102 => ⟨S24x1, .i32⟩
  | 103 => ⟨S24, .f32⟩
  | 104 => ⟨S24, .f32⟩
  | 105 => ⟨S24, .f32⟩
  | 106 => ⟨S_, .i32⟩
  | 107 => ⟨S24, .i32⟩
  | 108 => ⟨S24, .i1⟩
  | 109 => ⟨S_, .i32⟩
  | 110 => ⟨S24, .i32⟩
  | 111 => ⟨S24, .i32⟩
  | 112 => ⟨S24, .i32⟩
  | 113 => ⟨S24x1, .i32⟩
  | 114 => ⟨S1024x24x800, .f32⟩
  | 115 => ⟨S1x24x1, .f32⟩
  | 116 => ⟨S1024x24x800, .f32⟩
  | 117 => ⟨S1024x24x800, .f32⟩
  | 118 => ⟨S_, .f32⟩
  | 119 => ⟨S1024x12x800, .f32⟩
  | 120 => ⟨S_, .i32⟩
  | 121 => ⟨S24, .i32⟩
  | 122 => ⟨S24, .i1⟩
  | 123 => ⟨S_, .i32⟩
  | 124 => ⟨S24, .i32⟩
  | 125 => ⟨S24, .i32⟩
  | 126 => ⟨S24, .i32⟩
  | 127 => ⟨S24x1, .i32⟩
  | _ => ⟨S1024x16x25, .f32⟩

abbrev hbmTy0_2 (i : Nat) : BufTy := match i % 128 with
  | 0 => ⟨S1024x12x800, .f32⟩
  | 1 => ⟨S1024x12x64, .f32⟩
  | 2 => ⟨S1024x12x64, .f32⟩
  | 3 => ⟨S1024x12x64, .f32⟩
  | 4 => ⟨S1x1x64, .f32⟩
  | 5 => ⟨S1024x12x64, .f32⟩
  | 6 => ⟨S1024x12x64, .f32⟩
  | 7 => ⟨S1024x1024, .f32⟩
  | 8 => ⟨S1024x768, .f32⟩
  | 9 => ⟨S1024x1792, .f32⟩
  | 10 => ⟨S1024x64, .f32⟩
  | 11 => ⟨S1x64, .f32⟩
  | 12 => ⟨S1024x64, .f32⟩
  | 13 => ⟨S1024x64, .f32⟩
  | 14 => ⟨S_, .f32⟩
  | 15 => ⟨S1024x64, .f32⟩
  | 16 => ⟨S1024x64, .f32⟩
  | 17 => ⟨S1024x1856, .f32⟩
  | 18 => ⟨S1024x128, .f32⟩
  | 19 => ⟨S1x128, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S1024x1, .f32⟩
  | 26 => ⟨S1x1, .f32⟩
  | 27 => ⟨S1024x1, .f32⟩
  | 28 => ⟨S1024x1, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S_, .f32⟩
  | 35 => ⟨S1024x1, .f32⟩
  | 36 => ⟨S1024x1, .f32⟩
  | _ => ⟨S1024x16x25, .f32⟩

abbrev hbmTy (i : Nat) : BufTy := match i / 128 with
  | 0 => hbmTy0_0 i
  | 1 => hbmTy0_1 i
  | 2 => hbmTy0_2 i
  | _ => ⟨S1024x16x25, .f32⟩

abbrev bufTy : (tb : Table) → Fin (tcTables nBuf tb) → BufTy
  | .hbm, ⟨i, _⟩ => hbmTy i
  | _, _ => ⟨S1024x16x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_call0_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_0 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_c_2 : Ref sig .tc := ⟨.hbm, 66, rfl⟩
abbrev main_v40 : Ref sig .tc := ⟨.hbm, 67, rfl⟩
abbrev main_v41 : Ref sig .tc := ⟨.hbm, 68, rfl⟩
abbrev main_c_3 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_call1_v0 : Ref sig .tc := ⟨.hbm, 82, rfl⟩
abbrev main_call1_v1 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_cst_8 : Ref sig .tc := ⟨.hbm, 89, rfl⟩
abbrev main_call2_v0 : Ref sig .tc := ⟨.hbm, 90, rfl⟩
abbrev main_call2_v1 : Ref sig .tc := ⟨.hbm, 91, rfl⟩
abbrev main_v55 : Ref sig .tc := ⟨.hbm, 92, rfl⟩
abbrev main_c_9 : Ref sig .tc := ⟨.hbm, 93, rfl⟩
abbrev main_v56 : Ref sig .tc := ⟨.hbm, 94, rfl⟩
abbrev main_v57 : Ref sig .tc := ⟨.hbm, 95, rfl⟩
abbrev main_c_10 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_11 : Ref sig .tc := ⟨.hbm, 102, rfl⟩
abbrev main_v63 : Ref sig .tc := ⟨.hbm, 103, rfl⟩
abbrev main_v64 : Ref sig .tc := ⟨.hbm, 104, rfl⟩
abbrev main_c_12 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_13 : Ref sig .tc := ⟨.hbm, 113, rfl⟩
abbrev main_v72 : Ref sig .tc := ⟨.hbm, 114, rfl⟩
abbrev main_v73 : Ref sig .tc := ⟨.hbm, 115, rfl⟩
abbrev main_c_14 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_15 : Ref sig .tc := ⟨.hbm, 125, rfl⟩
abbrev main_v82 : Ref sig .tc := ⟨.hbm, 126, rfl⟩
abbrev main_c_16 : Ref sig .tc := ⟨.hbm, 127, rfl⟩
abbrev main_v83 : Ref sig .tc := ⟨.hbm, 128, rfl⟩
abbrev main_v84 : Ref sig .tc := ⟨.hbm, 129, rfl⟩
abbrev main_c_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_c_18 : Ref sig .tc := ⟨.hbm, 143, rfl⟩
abbrev main_call3_v0 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_19 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_20 : Ref sig .tc := ⟨.hbm, 183, rfl⟩
abbrev main_v134 : Ref sig .tc := ⟨.hbm, 184, rfl⟩
abbrev main_cst_21 : Ref sig .tc := ⟨.hbm, 185, rfl⟩
abbrev main_v135 : Ref sig .tc := ⟨.hbm, 186, rfl⟩
abbrev main_c_22 : Ref sig .tc := ⟨.hbm, 187, rfl⟩
abbrev main_v136 : Ref sig .tc := ⟨.hbm, 188, rfl⟩
abbrev main_v137 : Ref sig .tc := ⟨.hbm, 189, rfl⟩
abbrev main_c_23 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_24 : Ref sig .tc := ⟨.hbm, 196, rfl⟩
abbrev main_v143 : Ref sig .tc := ⟨.hbm, 197, rfl⟩
abbrev main_v144 : Ref sig .tc := ⟨.hbm, 198, rfl⟩
abbrev main_cst_25 : Ref sig .tc := ⟨.hbm, 199, rfl⟩
abbrev main_v145 : Ref sig .tc := ⟨.hbm, 200, rfl⟩
abbrev main_v146 : Ref sig .tc := ⟨.hbm, 201, rfl⟩
abbrev main_cst_26 : Ref sig .tc := ⟨.hbm, 202, rfl⟩
abbrev main_call4_v0 : Ref sig .tc := ⟨.hbm, 203, rfl⟩
abbrev main_call4_v1 : Ref sig .tc := ⟨.hbm, 204, rfl⟩
abbrev main_v147 : Ref sig .tc := ⟨.hbm, 205, rfl⟩
abbrev main_v148 : Ref sig .tc := ⟨.hbm, 206, rfl⟩
abbrev main_cst_27 : Ref sig .tc := ⟨.hbm, 207, rfl⟩
abbrev main_v149 : Ref sig .tc := ⟨.hbm, 208, rfl⟩
abbrev main_v150 : Ref sig .tc := ⟨.hbm, 209, rfl⟩
abbrev main_cst_28 : Ref sig .tc := ⟨.hbm, 210, rfl⟩
abbrev main_call5_v0 : Ref sig .tc := ⟨.hbm, 211, rfl⟩
abbrev main_call5_v1 : Ref sig .tc := ⟨.hbm, 212, rfl⟩
abbrev main_v151 : Ref sig .tc := ⟨.hbm, 213, rfl⟩
abbrev main_c_29 : Ref sig .tc := ⟨.hbm, 214, rfl⟩
abbrev main_v152 : Ref sig .tc := ⟨.hbm, 215, rfl⟩
abbrev main_v153 : Ref sig .tc := ⟨.hbm, 216, rfl⟩
abbrev main_c_30 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_c_31 : Ref sig .tc := ⟨.hbm, 223, rfl⟩
abbrev main_v159 : Ref sig .tc := ⟨.hbm, 224, rfl⟩
abbrev main_v160 : Ref sig .tc := ⟨.hbm, 225, rfl⟩
abbrev main_c_32 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_c_33 : Ref sig .tc := ⟨.hbm, 234, rfl⟩
abbrev main_v168 : Ref sig .tc := ⟨.hbm, 235, rfl⟩
abbrev main_v169 : Ref sig .tc := ⟨.hbm, 236, rfl⟩
abbrev main_c_34 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_cst_35 : Ref sig .tc := ⟨.hbm, 246, rfl⟩
abbrev main_v178 : Ref sig .tc := ⟨.hbm, 247, rfl⟩
abbrev main_c_36 : Ref sig .tc := ⟨.hbm, 248, rfl⟩
abbrev main_v179 : Ref sig .tc := ⟨.hbm, 249, rfl⟩
abbrev main_v180 : Ref sig .tc := ⟨.hbm, 250, rfl⟩
abbrev main_c_37 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_call6_cst : Ref sig .tc := ⟨.hbm, 270, rfl⟩
abbrev main_call6_v0 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_call7_cst : Ref sig .tc := ⟨.hbm, 278, rfl⟩
abbrev main_call7_v0 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_cst_38 : Ref sig .tc := ⟨.hbm, 287, rfl⟩
abbrev main_v212 : Ref sig .tc := ⟨.hbm, 288, rfl⟩
abbrev main_v213 : Ref sig .tc := ⟨.hbm, 289, rfl⟩
abbrev main_cst_39 : Ref sig .tc := ⟨.hbm, 290, rfl⟩
abbrev main_v214 : Ref sig .tc := ⟨.hbm, 291, rfl⟩
abbrev main_v215 : Ref sig .tc := ⟨.hbm, 292, rfl⟩

abbrev nD : Nat := 1
abbrev τ : Topo := Topo.v7x

variable {F : FTy → Type} [FloatOps F]
-- ==== Proof.Halves.lean ====
/-
  TWO HALVES MAKE THE WHOLE: a buffer overwritten by two rectangles of one array, which between them cover it, reads as that array.
-/
module

public import Idealize.ShloMosaic.Lib.VecWindow

@[expose] public section

namespace Cert.Halves

open Idealize.ShloMosaic

/-- Of contents under two stores, each putting `x`'s own part on its rectangle, a load of the whole view reads `x`, if every
    index lies on one of the two rectangles. -/
theorem readCov_two {sig : RefSig} {κ : Kind} {sp : Space} {s : Shape} {e : EltTy} {Val : EltTy → Type} [∀ e, Nonempty (Val e)]
    (v : View sig κ sp s e) (x : s.Idx → Val e) {off offA offB sizeA sizeB : Fin s.rank → ℕ} (inb : ∀ a, off a + s.size a ≤ s.size a)
    (inbA : ∀ a, offA a + sizeA a ≤ s.size a) (inbB : ∀ a, offB a + sizeB a ≤ s.size a)
    (hcov : ∀ y : s.Idx, (∀ a, offA a ≤ (y a).val ∧ (y a).val < offA a + sizeA a) ∨ (∀ a, offB a ≤ (y a).val ∧ (y a).val < offB a + sizeB a)) :
    v.readCov [⟨Rect.unit offA sizeA inbA, VecWindow.window x offA sizeA inbA⟩, ⟨Rect.unit offB sizeB inbB, VecWindow.window x offB sizeB inbB⟩]
        (Rect.unit off s.size inb).toLoadRect = x := by
  have key : ∀ (o z : Fin s.rank → ℕ) (hi : ∀ a, o a + z a ≤ s.size a) (y : s.Idx) (h : ∀ a, o a ≤ (y a).val ∧ (y a).val < o a + z a),
      VecWindow.window x o z hi (Rect.unitLocal (s := s) (off := o) (size := z) y h) = x y := fun o z hi y h =>
    congrArg x (funext fun a => Fin.ext (by
      show o a + 1 * ((y a).val - o a) = (y a).val
      have := h a
      omega))
  unfold View.readCov
  rw [View.readAt_full, View.read_writes_cons_put v _ inbA _ _ rfl, View.read_writes_cons_put v _ inbB _ _ rfl]
  funext y
  unfold VecWindow.put
  by_cases hA : ∀ a, offA a ≤ (y a).val ∧ (y a).val < offA a + sizeA a
  · rw [dif_pos hA]; exact key offA sizeA inbA y hA
  · rw [dif_neg hA]
    have hB := (hcov y).resolve_left hA
    rw [dif_pos hB]; exact key offB sizeB inbB y hB

end Cert.Halves
-- ==== Proof.KernelIdealOut.lean ====
/-
  WHAT ONE LAUNCH STORES, as a function of the arrays it reads: the two branches folded to one matrix and one row each
  (`eccM`, `eccC`, `errM`, `biasRow`), and the result (`fused`). The pieces are the kernel's own values, by the names of its skeleton.
-/
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic

variable {F : FTy → Type} [FloatOps F]

/-- The rows of `fc1_W` that meet the first branch, the second branch and the dense branch. -/
def fcEcc (w : Vec F S1856x128 .f32) : Vec F S1024x128 .f32 := VecWindow.window w ![0, 0] ![1024, 128] inb_S1856x128_S1024x128_0_0
def fcErr (w : Vec F S1856x128 .f32) : Vec F S768x128 .f32 := VecWindow.window w ![1024, 0] ![768, 128] inb_S1856x128_S768x128_1024_0
def fcEhr (w : Vec F S1856x128 .f32) : Vec F S64x128 .f32 := VecWindow.window w ![1792, 0] ![64, 128] inb_S1856x128_S64x128_1792_0

/-- The column selector of the first branch (`Vc`): entry `(g, j)` is one where `j` is column `g` of its node. -/
def eccCol : FVec F S64x1024 .f32 := k0_pay10 k0_pay8 k0_pay9 (Scalar.ofBits .f32 0x3C800000#32)

/-- The convolution of the first branch composed with a feature weight matrix (`W0_eff`, `W1_eff`). -/
def eccW0 (cw : Vec F S32x3 .f32) (W0 : Vec F S800x64 .f32) : FVec F S25x64 .f32 :=
  k0_pay19 W0 k0_pay5 (k0_pay13 (k0_pay2 cw) k0_pay6) k0_pay14 (k0_pay15 (k0_pay2 cw) k0_pay5 k0_pay6) (k0_pay16 (k0_pay2 cw) k0_pay6) (k0_pay17 k0_pay5)
def eccW1 (cw : Vec F S32x3 .f32) (W1 : Vec F S800x64 .f32) : FVec F S25x64 .f32 :=
  k0_pay20 W1 k0_pay5 (k0_pay13 (k0_pay2 cw) k0_pay6) k0_pay14 (k0_pay15 (k0_pay2 cw) k0_pay5 k0_pay6) (k0_pay16 (k0_pay2 cw) k0_pay6) (k0_pay17 k0_pay5)

/-- The matrix of the first branch. -/
def eccM (Fe : Vec F S1024x128 .f32) (cw : Vec F S32x3 .f32) (W0 W1 : Vec F S800x64 .f32) (ei : Vec F S2x32 .i32) : FVec F S400x128 .f32 :=
  k0_pay30 Fe k0_pay7 eccCol k0_pay11 k0_pay12 (eccW0 cw W0) (eccW1 cw W1) (k0_pay25 ei) (k0_pay26 ei) (k0_pay27 ei) k0_pay28

/-- The row of the first branch. -/
def eccC (Fe : Vec F S1024x128 .f32) (cb : Vec F S1x32 .f32) (W0 W1 : Vec F S800x64 .f32) (chb : Vec F S1x64 .f32) (ei : Vec F S2x32 .i32) :
    FVec F S1x128 .f32 :=
  k0_pay33 Fe eccCol k0_pay12 (k0_pay23 (k0_pay3 cb) W1 k0_pay6) (k0_pay31 Fe (k0_pay4 chb) eccCol (k0_pay22 (k0_pay3 cb) W0 k0_pay6))
    (k0_pay32 (k0_pay25 ei) (k0_pay26 ei) (k0_pay27 ei) k0_pay28) (constant S1x1024 .f32 0x00000000#32)

/-- The matrix of the second branch. -/
def errM (Fr : Vec F S768x128 .f32) (cw : Vec F S32x3 .f32) (W0 W1 : Vec F S800x64 .f32) (ei : Vec F S2x24 .i32) : FVec F S300x128 .f32 :=
  k0_pay58 Fr (k0_pay44 (F := F) (k0_pay43 (F := F))) (k0_pay54 (k0_pay40 k0_pay39) k0_pay41 (k0_pay46 (k0_pay34 cw) W0 k0_pay37 k0_pay38))
    (k0_pay55 (k0_pay40 k0_pay39) k0_pay41 (k0_pay47 (k0_pay34 cw) W1 k0_pay37 k0_pay38)) (k0_pay56 k0_pay42 (k0_pay44 (F := F) (k0_pay43 (F := F))))
    (k0_pay57 k0_pay42 (k0_pay51 ei) (k0_pay52 ei))

/-- The bias row: `fc1_b`, the row `c` of the first branch and the row of the second. -/
def biasRow (Fr : Vec F S768x128 .f32) (c : FVec F S1x128 .f32) (cb : Vec F S1x32 .f32) (W0 W1 : Vec F S800x64 .f32) (chb : Vec F S1x64 .f32)
    (ei : Vec F S2x24 .i32) (b : Vec F S1x128 .f32) : FVec F S1x128 .f32 :=
  k0_pay59 Fr c (k0_pay36 chb) k0_pay41 (k0_pay44 (F := F) (k0_pay43 (F := F))) (k0_pay49 (k0_pay35 cb) W0 k0_pay38) (k0_pay50 (k0_pay35 cb) W1 k0_pay38)
    (k0_pay53 (k0_pay51 ei) (k0_pay52 ei)) b

/-- What the launch stores: of the three arrays it copies (`x0`, `x1`, `x2`) and the staged arrays in the launch's order. -/
def fused (x0 : Vec F S1024x400 .f32) (x1 : Vec F S1024x300 .f32) (x2 : Vec F S1024x128 .f32)
    (ehrW : Vec F S128x64 .f32) (ehrB : Vec F S1x64 .f32) (fc2W : Vec F S128x1 .f32) (fc2B : Vec F S1x1 .f32) (fc1W : Vec F S1856x128 .f32)
    (fc1B : Vec F S1x128 .f32) (cwE : Vec F S32x3 .f32) (cbE : Vec F S1x32 .f32) (w0E w1E : Vec F S800x64 .f32) (chbE : Vec F S1x64 .f32)
    (eiE : Vec F S2x32 .i32) (cwR : Vec F S32x3 .f32) (cbR : Vec F S1x32 .f32) (w0R w1R : Vec F S800x64 .f32) (chbR : Vec F S1x64 .f32)
    (eiR : Vec F S2x24 .i32) : FVec F S1024x1 .f32 :=
  k0_pay1 (biasRow (fcErr fc1W) (eccC (fcEcc fc1W) cbE w0E w1E chbE eiE) cbR w0R w1R chbR eiR fc1B)
    (k0_pay60 (eccM (fcEcc fc1W) cwE w0E w1E eiE) (errM (fcErr fc1W) cwR w0R w1R eiR) x0 x1)
    (k0_pay61 x2 ehrW ehrB) (k0_pay62 (fcEhr fc1W)) (constant S1024x128 .f32 0x00000000#32) fc2W fc2B

end Cert.KernelIdeal.Hand

end
-- ==== Proof.KernelIdealRun.lean ====
/-
  THE BODY of the launch, run once. The kernel copies its three arrays left in HBM into three scratch arrays, each by two
  transfers counted on one semaphore cell (rows 0 to 511, rows 512 to 1023), computes the weights meanwhile from the
  arrays the launch stages, waits for the six copies and stores the result.
-/
module

public import proofs.«01_k».proof.Proof.Halves
public import proofs.«01_k».proof.Proof.KernelIdealOut
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Batch
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The three arrays left in HBM and the three scratch arrays they are copied into. -/
abbrev hb0 : Memref sig .tc .hbm S1024x400 .f32 := Memref.whole main_call0_v0
abbrev hb1 : Memref sig .tc .hbm S1024x300 .f32 := Memref.whole main_call0_v1
abbrev hb2 : Memref sig .tc .hbm S1024x128 .f32 := Memref.whole main_arg2
abbrev sc0 : Memref sig .tc .vmem S1024x400 .f32 := Memref.whole cc0_scratch0
abbrev sc1 : Memref sig .tc .vmem S1024x300 .f32 := Memref.whole cc0_scratch1
abbrev sc2 : Memref sig .tc .vmem S1024x128 .f32 := Memref.whole cc0_scratch2

/-- A buffer's contents behind a memref, and the buffer held at the full share: whole, or the view's elements. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev winPt (c : Dev nD) {sp : Space} {S : Shape} {e : EltTy} (M : Memref sig .tc sp S e) (f : HbBuf (F := F) c M) : sProp 𝕄 :=
  M.view.loc (c : Thread nD τ) ↦[M.view.set]{fullShare} f

/-- The row halves 512 to 1023 and 0 to 511 cover 1024 rows. -/
theorem halves (n : ℕ) (y : (⟨2, ![1024, n]⟩ : Shape).Idx) :
    (∀ a, (![512, 0] : Fin 2 → ℕ) a ≤ (y a).val ∧ (y a).val < (![512, 0] : Fin 2 → ℕ) a + (![512, n] : Fin 2 → ℕ) a)
      ∨ (∀ a, (![0, 0] : Fin 2 → ℕ) a ≤ (y a).val ∧ (y a).val < (![0, 0] : Fin 2 → ℕ) a + (![512, n] : Fin 2 → ℕ) a) := by
  have h1 : (y 1).val < n := (y 1).isLt
  have h0 : (y 0).val < 1024 := (y 0).isLt
  by_cases h : 512 ≤ (y 0).val
  · left; rw [Fin.forall_fin_two]; refine ⟨⟨h, ?_⟩, Nat.zero_le _, ?_⟩ <;> simp <;> omega
  · right; rw [Fin.forall_fin_two]; refine ⟨⟨Nat.zero_le _, ?_⟩, Nat.zero_le _, ?_⟩ <;> simp <;> omega

set_option maxHeartbeats 1600000 in
/-- The body's triple, for any continuation: from the staged arrays at contents `f3` to `f20`, the output and the scratch arrays at
    anything, the three cells at zero and the three HBM arrays at `g0`, `g1`, `g2`, the body runs to its return and hands
    everything back as it was, the output holding `fused` of what it read. -/
theorem bodyRun (c : Dev nD)
    (arg3 : Memref sig .tc .vmem S128x64 .f32) (harg3 : arg3.IsWhole)
    (arg4 : Memref sig .tc .vmem S1x64 .f32) (harg4 : arg4.IsWhole)
    (arg5 : Memref sig .tc .vmem S128x1 .f32) (harg5 : arg5.IsWhole)
    (arg6 : Memref sig .tc .vmem S1x1 .f32) (harg6 : arg6.IsWhole)
    (arg7 : Memref sig .tc .vmem S1856x128 .f32) (harg7 : arg7.IsWhole)
    (arg8 : Memref sig .tc .vmem S1x128 .f32) (harg8 : arg8.IsWhole)
    (arg9 : Memref sig .tc .vmem S32x3 .f32) (harg9 : arg9.IsWhole)
    (arg10 : Memref sig .tc .vmem S1x32 .f32) (harg10 : arg10.IsWhole)
    (arg11 : Memref sig .tc .vmem S800x64 .f32) (harg11 : arg11.IsWhole)
    (arg12 : Memref sig .tc .vmem S800x64 .f32) (harg12 : arg12.IsWhole)
    (arg13 : Memref sig .tc .vmem S1x64 .f32) (harg13 : arg13.IsWhole)
    (arg14 : Memref sig .tc .vmem S2x32 .i32) (harg14 : arg14.IsWhole)
    (arg15 : Memref sig .tc .vmem S32x3 .f32) (harg15 : arg15.IsWhole)
    (arg16 : Memref sig .tc .vmem S1x32 .f32) (harg16 : arg16.IsWhole)
    (arg17 : Memref sig .tc .vmem S800x64 .f32) (harg17 : arg17.IsWhole)
    (arg18 : Memref sig .tc .vmem S800x64 .f32) (harg18 : arg18.IsWhole)
    (arg19 : Memref sig .tc .vmem S1x64 .f32) (harg19 : arg19.IsWhole)
    (arg20 : Memref sig .tc .vmem S2x24 .i32) (harg20 : arg20.IsWhole)
    (arg21 : Memref sig .tc .vmem S1024x1 .f32) (harg21 : arg21.IsWhole)
    (f3 : HbBuf c arg3 (F := F))
    (f4 : HbBuf c arg4 (F := F))
    (f5 : HbBuf c arg5 (F := F))
    (f6 : HbBuf c arg6 (F := F))
    (f7 : HbBuf c arg7 (F := F))
    (f8 : HbBuf c arg8 (F := F))
    (f9 : HbBuf c arg9 (F := F))
    (f10 : HbBuf c arg10 (F := F))
    (f11 : HbBuf c arg11 (F := F))
    (f12 : HbBuf c arg12 (F := F))
    (f13 : HbBuf c arg13 (F := F))
    (f14 : HbBuf c arg14 (F := F))
    (f15 : HbBuf c arg15 (F := F))
    (f16 : HbBuf c arg16 (F := F))
    (f17 : HbBuf c arg17 (F := F))
    (f18 : HbBuf c arg18 (F := F))
    (f19 : HbBuf c arg19 (F := F))
    (f20 : HbBuf c arg20 (F := F))
    (g0 : HbBuf c hb0 (F := F)) (g1 : HbBuf c hb1 (F := F)) (g2 : HbBuf c hb2 (F := F))
    (p0 : Transfers.BatchOf (c : Thread nD τ) (SemLoc.dma (sig := sig) 19) 2 (windows := true))
    (p1 : Transfers.BatchOf (c : Thread nD τ) (SemLoc.dma (sig := sig) 20) 2 (windows := true))
    (p2 : Transfers.BatchOf (c : Thread nD τ) (SemLoc.dma (sig := sig) 21) 2 (windows := true))
    (W : Waits sig Unit) (K : PUnit → sProp 𝕄) :
    iprop(winPt c arg3 f3
        ∗ winPt c arg4 f4
        ∗ winPt c arg5 f5
        ∗ winPt c arg6 f6
        ∗ winPt c arg7 f7
        ∗ winPt c arg8 f8
        ∗ winPt c arg9 f9
        ∗ winPt c arg10 f10
        ∗ winPt c arg11 f11
        ∗ winPt c arg12 f12
        ∗ winPt c arg13 f13
        ∗ winPt c arg14 f14
        ∗ winPt c arg15 f15
        ∗ winPt c arg16 f16
        ∗ winPt c arg17 f17
        ∗ winPt c arg18 f18
        ∗ winPt c arg19 f19
        ∗ winPt c arg20 f20
        ∗ (∃ f, winPt c arg21 f)
        ∗ (∃ f, hbPt c sc0 f) ∗ (∃ f, hbPt c sc1 f) ∗ (∃ f, hbPt c sc2 f)
        ∗ semVal ((c : Thread nD τ), SemLoc.dma 19) 0 ∗ semVal ((c : Thread nD τ), SemLoc.dma 20) 0
        ∗ semVal ((c : Thread nD τ), SemLoc.dma 21) 0
        ∗ hbPt c hb0 g0 ∗ hbPt c hb1 g1 ∗ hbPt c hb2 g2
        ∗ owes (c : Thread nD τ) 0 W
        ∗ (iprop(winPt c arg3 f3
        ∗ winPt c arg4 f4
        ∗ winPt c arg5 f5
        ∗ winPt c arg6 f6
        ∗ winPt c arg7 f7
        ∗ winPt c arg8 f8
        ∗ winPt c arg9 f9
        ∗ winPt c arg10 f10
        ∗ winPt c arg11 f11
        ∗ winPt c arg12 f12
        ∗ winPt c arg13 f13
        ∗ winPt c arg14 f14
        ∗ winPt c arg15 f15
        ∗ winPt c arg16 f16
        ∗ winPt c arg17 f17
        ∗ winPt c arg18 f18
        ∗ winPt c arg19 f19
        ∗ winPt c arg20 f20
            ∗ (∃ f, ⌜arg21.view.read (Elt F) f = fused (hb0.view.read (Elt F) g0) (hb1.view.read (Elt F) g1) (hb2.view.read (Elt F) g2)
                (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16) (arg17.view.read (Elt F) f17) (arg18.view.read (Elt F) f18) (arg19.view.read (Elt F) f19) (arg20.view.read (Elt F) f20)⌝ ∗ winPt c arg21 f)
            ∗ (∃ f, hbPt c sc0 f) ∗ (∃ f, hbPt c sc1 f) ∗ (∃ f, hbPt c sc2 f)
            ∗ semVal ((c : Thread nD τ), SemLoc.dma 19) 0 ∗ semVal ((c : Thread nD τ), SemLoc.dma 20) 0
            ∗ semVal ((c : Thread nD τ), SemLoc.dma 21) 0
            ∗ hbPt c hb0 g0 ∗ hbPt c hb1 g1 ∗ hbPt c hb2 g2
            ∗ (∃ W', owes (c : Thread nD τ) 0 W')) -∗ K ⟨⟩))
      ⊢ wp frame (wpE (defs₀ (F := F)) Variants.none c none) Set.univ
          (cc0__fused hb0 (Memref.isWhole_whole _) hb1 (Memref.isWhole_whole _) hb2 (Memref.isWhole_whole _)
            arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
            sc0 (Memref.isWhole_whole _) sc1 (Memref.isWhole_whole _) sc2 (Memref.isWhole_whole _)
            cc0_scratch3 cc0_scratch4 cc0_scratch5) K := by
  simp only [cc0__fused_eq_skeleton]; unfold cc0__fused_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  iintro ⟨H3, H4, H5, H6, H7, H8, H9, H10, H11, H12, H13, H14, H15, H16, H17, H18, H19, H20, ⟨%f21, H21⟩, ⟨%s0, HS0⟩, ⟨%s1, HS1⟩, ⟨%s2, HS2⟩, Hq0, Hq1, Hq2, G0, G1, G2, HW, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · iexists _; isplitr; swap; · iexact H21
    ipureintro
    have e0 : bodyRun.sl.v440 c g0 = hb0.view.read (Elt F) g0 := Halves.readCov_two sc0.view (hb0.view.read (Elt F) g0) _ _ _ (halves 400)
    have e1 : bodyRun.sl.v444 c g1 = hb1.view.read (Elt F) g1 := Halves.readCov_two sc1.view (hb1.view.read (Elt F) g1) _ _ _ (halves 300)
    have e2 : bodyRun.sl.v428 c g2 = hb2.view.read (Elt F) g2 := Halves.readCov_two sc2.view (hb2.view.read (Elt F) g2) _ _ _ (halves 128)
    refine (View.read_writes_full _ _ _ _ _).trans ?_
    have h3 : arg3.view.readAt (Elt F) (Rect.unit ![0, 0] ![128, 64] inb_S128x64_S128x64_0_0).toLoadRect f3 = arg3.view.read (Elt F) f3 := View.readAt_full _ _ _
    have h4 : arg4.view.readAt (Elt F) (Rect.unit ![0, 0] ![1, 64] inb_S1x64_S1x64_0_0).toLoadRect f4 = arg4.view.read (Elt F) f4 := View.readAt_full _ _ _
    have h5 : arg5.view.readAt (Elt F) (Rect.unit ![0, 0] ![128, 1] inb_S128x1_S128x1_0_0).toLoadRect f5 = arg5.view.read (Elt F) f5 := View.readAt_full _ _ _
    have h6 : arg6.view.readAt (Elt F) (Rect.unit ![0, 0] ![1, 1] inb_S1x1_S1x1_0_0).toLoadRect f6 = arg6.view.read (Elt F) f6 := View.readAt_full _ _ _
    have h8 : arg8.view.readAt (Elt F) (Rect.unit ![0, 0] ![1, 128] inb_S1x128_S1x128_0_0).toLoadRect f8 = arg8.view.read (Elt F) f8 := View.readAt_full _ _ _
    have h9 : arg9.view.readAt (Elt F) (Rect.unit ![0, 0] ![32, 3] inb_S32x3_S32x3_0_0).toLoadRect f9 = arg9.view.read (Elt F) f9 := View.readAt_full _ _ _
    have h10 : arg10.view.readAt (Elt F) (Rect.unit ![0, 0] ![1, 32] inb_S1x32_S1x32_0_0).toLoadRect f10 = arg10.view.read (Elt F) f10 := View.readAt_full _ _ _
    have h11 : arg11.view.readAt (Elt F) (Rect.unit ![0, 0] ![800, 64] inb_S800x64_S800x64_0_0).toLoadRect f11 = arg11.view.read (Elt F) f11 := View.readAt_full _ _ _
    have h12 : arg12.view.readAt (Elt F) (Rect.unit ![0, 0] ![800, 64] inb_S800x64_S800x64_0_0).toLoadRect f12 = arg12.view.read (Elt F) f12 := View.readAt_full _ _ _
    have h13 : arg13.view.readAt (Elt F) (Rect.unit ![0, 0] ![1, 64] inb_S1x64_S1x64_0_0).toLoadRect f13 = arg13.view.read (Elt F) f13 := View.readAt_full _ _ _
    have h14 : arg14.view.readAt (Elt F) (Rect.unit ![0, 0] ![2, 32] inb_S2x32_S2x32_0_0).toLoadRect f14 = arg14.view.read (Elt F) f14 := View.readAt_full _ _ _
    have h15 : arg15.view.readAt (Elt F) (Rect.unit ![0, 0] ![32, 3] inb_S32x3_S32x3_0_0).toLoadRect f15 = arg15.view.read (Elt F) f15 := View.readAt_full _ _ _
    have h16 : arg16.view.readAt (Elt F) (Rect.unit ![0, 0] ![1, 32] inb_S1x32_S1x32_0_0).toLoadRect f16 = arg16.view.read (Elt F) f16 := View.readAt_full _ _ _
    have h17 : arg17.view.readAt (Elt F) (Rect.unit ![0, 0] ![800, 64] inb_S800x64_S800x64_0_0).toLoadRect f17 = arg17.view.read (Elt F) f17 := View.readAt_full _ _ _
    have h18 : arg18.view.readAt (Elt F) (Rect.unit ![0, 0] ![800, 64] inb_S800x64_S800x64_0_0).toLoadRect f18 = arg18.view.read (Elt F) f18 := View.readAt_full _ _ _
    have h19 : arg19.view.readAt (Elt F) (Rect.unit ![0, 0] ![1, 64] inb_S1x64_S1x64_0_0).toLoadRect f19 = arg19.view.read (Elt F) f19 := View.readAt_full _ _ _
    have h20 : arg20.view.readAt (Elt F) (Rect.unit ![0, 0] ![2, 24] inb_S2x24_S2x24_0_0).toLoadRect f20 = arg20.view.read (Elt F) f20 := View.readAt_full _ _ _
    have w0 : arg7.view.readAt (Elt F) (Rect.unit ![0, 0] ![1024, 128] inb_S1856x128_S1024x128_0_0).toLoadRect f7 = VecWindow.window (arg7.view.read (Elt F) f7) ![0, 0] ![1024, 128] inb_S1856x128_S1024x128_0_0 := View.readAt_unit _ _ _ rfl _
    have w1 : arg7.view.readAt (Elt F) (Rect.unit ![1024, 0] ![768, 128] inb_S1856x128_S768x128_1024_0).toLoadRect f7 = VecWindow.window (arg7.view.read (Elt F) f7) ![1024, 0] ![768, 128] inb_S1856x128_S768x128_1024_0 := View.readAt_unit _ _ _ rfl _
    have w2 : arg7.view.readAt (Elt F) (Rect.unit ![1792, 0] ![64, 128] inb_S1856x128_S64x128_1792_0).toLoadRect f7 = VecWindow.window (arg7.view.read (Elt F) f7) ![1792, 0] ![64, 128] inb_S1856x128_S64x128_1792_0 := View.readAt_unit _ _ _ rfl _
    simp only [e0, e1, e2, h3, h4, h5, h6, h8, h9, h10, h11, h12, h13, h14, h15, h16, h17, h18, h19, h20, w0, w1, w2]
    simp only [fused, eccM, eccC, errM, biasRow, eccW0, eccW1, eccCol, fcEcc, fcErr, fcEhr]
    rfl
  isplitl [HS0]; · iexists _; iexact HS0
  isplitl [HS1]; · iexists _; iexact HS1
  isplitl [HS2]; · iexists _; iexact HS2
  isplitl [Hq0]; · iexact Hq0
  isplitl [Hq1]; · iexact Hq1
  isplitl [Hq2]; · iexact Hq2
  isplitl [G0]; · iexact G0
  isplitl [G1]; · iexact G1
  isplitl [G2]; · iexact G2
  iexists _; iexact HW

end Cert.KernelIdeal.Hand

end
-- ==== Proof.KernelIdealFrame.lean ====
/-
  THE LAUNCH: from the body's run to the program's. Every execution of the program ends, leaves its arguments as they were,
  brings every semaphore back to zero, and leaves in the result array what `fused` computes.
-/
module

public import proofs.«01_k».proof.Proof.KernelIdealRun
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphores: three cells, one for each array it copies. -/
abbrev osem0 : Fin 3 → SemLoc sig := fun j => (![SemLoc.dma 19, SemLoc.dma 20, SemLoc.dma 21] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2] (by decide) (by decide)]; rfl

/-- The three arrays left in HBM. -/
def hbms0 : Finset (Ref sig .tc) := {main_call0_v0, main_call0_v1, main_arg2}
theorem hbms0_sub : hbms0 ⊆ Pipeline.restRefs sig spec0 := by decide
theorem hbmPts0_eq (c : Dev nD) :
    (bigSep hbms0 (fun b => ((c : Thread nD τ).loc b) ↦{fullShare} V m c b) : sProp 𝕄)
      = iprop(hbPt c hb0 (V m c main_call0_v0) ∗ hbPt c hb1 (V m c main_call0_v1) ∗ hbPt c hb2 (V m c main_arg2)) := by
  rw [BI.bigSep_eq_bigSepL_of_eq [main_call0_v0, main_call0_v1, main_arg2] (by decide) (by decide)]; rfl

/-- What the launch's one grid point is run under, piece by piece: the scratch arrays at anything, the generator register, the
    three cells at zero, the three HBM arrays as the region finds them. -/
theorem PhiD0_eq (c : Dev nD) :
    (Pipeline.ΦD osem0 spec0 hbms0 (V m) c : sProp 𝕄)
      = iprop(iprop((∃ f, hbPt c sc0 f) ∗ (∃ f, hbPt c sc1 f) ∗ (∃ f, hbPt c sc2 f)) ∗ (∃ r, prngReg c r)
          ∗ iprop(semVal ((c : Thread nD τ), SemLoc.dma 19) 0 ∗ semVal ((c : Thread nD τ), SemLoc.dma 20) 0 ∗ semVal ((c : Thread nD τ), SemLoc.dma 21) 0)
          ∗ iprop(hbPt c hb0 (V m c main_call0_v0) ∗ hbPt c hb1 (V m c main_call0_v1) ∗ hbPt c hb2 (V m c main_arg2))) := by
  rw [Pipeline.ΦD_eq, scopedRest0_eq, ownSems00_eq, hbmPts0_eq]; try rfl

/-- What the body leaves in the output's staged block: `fused` of the HBM arrays and of the staged blocks. -/
def outAt (c : Dev nD) (t : Fin cfg0.N) : FVec F S1024x1 .f32 :=
  fused (V m c main_call0_v0) (V m c main_call0_v1) (V m c main_arg2)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The proof data on core `c`: the arrays as the region finds them, each input block left in place, the output block `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t | ⟨4, _⟩ => iblk m c 4 t | ⟨5, _⟩ => iblk m c 5 t | ⟨6, _⟩ => iblk m c 6 t | ⟨7, _⟩ => iblk m c 7 t | ⟨8, _⟩ => iblk m c 8 t | ⟨9, _⟩ => iblk m c 9 t | ⟨10, _⟩ => iblk m c 10 t | ⟨11, _⟩ => iblk m c 11 t | ⟨12, _⟩ => iblk m c 12 t | ⟨13, _⟩ => iblk m c 13 t | ⟨14, _⟩ => iblk m c 14 t | ⟨15, _⟩ => iblk m c 15 t | ⟨16, _⟩ => iblk m c 16 t | ⟨17, _⟩ => iblk m c 17 t
    | ⟨18, _⟩ => outAt m c t
    | ⟨n + 19, h⟩ => absurd h (Nat.not_lt.mpr (Nat.le_add_left 19 n))
  Φ _ := Pipeline.ΦD osem0 spec0 hbms0 (V m) c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before0_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before0_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before0_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before0_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before0_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before0_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem before0_7 (c : Dev nD) (t : Fin cfg0.N) (d) : (dats m 0 c).before 7 t d = iblk m c 7 t :=
  ((dats m 0 c).before_in_eq_fetched 7 rfl (fun _ => rfl) (fun _ _ _ => rfl) (fun _ => rfl) t d).trans rfl
theorem before0_8 (c : Dev nD) (t : Fin cfg0.N) (d) : (dats m 0 c).before 8 t d = iblk m c 8 t :=
  ((dats m 0 c).before_in_eq_fetched 8 rfl (fun _ => rfl) (fun _ _ _ => rfl) (fun _ => rfl) t d).trans rfl
theorem before0_9 (c : Dev nD) (t : Fin cfg0.N) (d) : (dats m 0 c).before 9 t d = iblk m c 9 t :=
  ((dats m 0 c).before_in_eq_fetched 9 rfl (fun _ => rfl) (fun _ _ _ => rfl) (fun _ => rfl) t d).trans rfl
theorem before0_10 (c : Dev nD) (t : Fin cfg0.N) (d) : (dats m 0 c).before 10 t d = iblk m c 10 t :=
  ((dats m 0 c).before_in_eq_fetched 10 rfl (fun _ => rfl) (fun _ _ _ => rfl) (fun _ => rfl) t d).trans rfl
theorem before0_11 (c : Dev nD) (t : Fin cfg0.N) (d) : (dats m 0 c).before 11 t d = iblk m c 11 t :=
  ((dats m 0 c).before_in_eq_fetched 11 rfl (fun _ => rfl) (fun _ _ _ => rfl) (fun _ => rfl) t d).trans rfl
theorem before0_12 (c : Dev nD) (t : Fin cfg0.N) (d) : (dats m 0 c).before 12 t d = iblk m c 12 t :=
  ((dats m 0 c).before_in_eq_fetched 12 rfl (fun _ => rfl) (fun _ _ _ => rfl) (fun _ => rfl) t d).trans rfl
theorem before0_13 (c : Dev nD) (t : Fin cfg0.N) (d) : (dats m 0 c).before 13 t d = iblk m c 13 t :=
  ((dats m 0 c).before_in_eq_fetched 13 rfl (fun _ => rfl) (fun _ _ _ => rfl) (fun _ => rfl) t d).trans rfl
theorem before0_14 (c : Dev nD) (t : Fin cfg0.N) (d) : (dats m 0 c).before 14 t d = iblk m c 14 t :=
  ((dats m 0 c).before_in_eq_fetched 14 rfl (fun _ => rfl) (fun _ _ _ => rfl) (fun _ => rfl) t d).trans rfl
theorem before0_15 (c : Dev nD) (t : Fin cfg0.N) (d) : (dats m 0 c).before 15 t d = iblk m c 15 t :=
  ((dats m 0 c).before_in_eq_fetched 15 rfl (fun _ => rfl) (fun _ _ _ => rfl) (fun _ => rfl) t d).trans rfl
theorem before0_16 (c : Dev nD) (t : Fin cfg0.N) (d) : (dats m 0 c).before 16 t d = iblk m c 16 t :=
  ((dats m 0 c).before_in_eq_fetched 16 rfl (fun _ => rfl) (fun _ _ _ => rfl) (fun _ => rfl) t d).trans rfl
theorem before0_17 (c : Dev nD) (t : Fin cfg0.N) (d) : (dats m 0 c).before 17 t d = iblk m c 17 t :=
  ((dats m 0 c).before_in_eq_fetched 17 rfl (fun _ => rfl) (fun _ _ _ => rfl) (fun _ => rfl) t d).trans rfl

/-- What the body is called with at the point, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 4000000 in
/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0 m c t, before0_1 m c t, before0_2 m c t, before0_3 m c t, before0_4 m c t, before0_5 m c t, before0_6 m c t, before0_7 m c t, before0_8 m c t, before0_9 m c t, before0_10 m c t, before0_11 m c t, before0_12 m c t, before0_13 m c t, before0_14 m c t, before0_15 m c t, before0_16 m c t, before0_17 m c t]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 hbms0 (V m) c from rfl, PhiD0_eq,
    show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl, show (dats m 0 c).after 12 t = iblk m c 12 t from rfl, show (dats m 0 c).after 13 t = iblk m c 13 t from rfl, show (dats m 0 c).after 14 t = iblk m c 14 t from rfl, show (dats m 0 c).after 15 t = iblk m c 15 t from rfl, show (dats m 0 c).after 16 t = iblk m c 16 t from rfl, show (dats m 0 c).after 17 t = iblk m c 17 t from rfl,
    show (dats m 0 c).after 18 t = outAt m c t from rfl]
  unfold Dat.owesAt Pipeline.owesWithin
  rw [show (dats m 0 c).owed t.castSucc = 0 from rfl]
  unfold owns
  iintro ⟨⟨⟨HS0, HS1, HS2⟩, Hg, ⟨Hq0, Hq1, Hq2⟩, ⟨G0, G1, G2⟩⟩, ⟨%Wt, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩⟩
  iapply (bodyRun c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (st0_12 t) (hstage0_12 0) (st0_13 t) (hstage0_13 0) (st0_14 t) (hstage0_14 0) (st0_15 t) (hstage0_15 0) (st0_16 t) (hstage0_16 0) (st0_17 t) (hstage0_17 0) (st0_18 t) (hstage0_18 0)
    f0 f1 f2 f3 f4 f5 f6 f7 f8 f9 f10 f11 f12 f13 f14 f15 f16 f17 (V m c main_call0_v0) (V m c main_call0_v1) (V m c main_arg2)
    trivial trivial trivial Wt _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [G0]; · iexact G0
  isplitl [G1]; · iexact G1
  isplitl [G2]; · iexact G2
  isplitl [HO]; · iexact HO
  iintro ⟨H0, H1, H2, H3, H4, H5, H6, H7, H8, H9, H10, H11, H12, H13, H14, H15, H16, H17, ⟨%fo, %eo, H18⟩, HS0, HS1, HS2, Hq0, Hq1, Hq2, G0, G1, G2, ⟨%W', HO⟩⟩
  isplitl [HS0 HS1 HS2 Hg Hq0 Hq1 Hq2 G0 G1 G2]
  · isplitl [HS0 HS1 HS2]
    · isplitl [HS0]; · iexact HS0
      isplitl [HS1]; · iexact HS1
      iexact HS2
    isplitl [Hg]; · iexact Hg
    isplitl [Hq0 Hq1 Hq2]
    · isplitl [Hq0]; · iexact Hq0
      isplitl [Hq1]; · iexact Hq1
      iexact Hq2
    isplitl [G0]; · iexact G0
    isplitl [G1]; · iexact G1
    iexact G2
  isplitl [HO]
  · iexists W'; isplitr; · ipureintro; exact fun _ _ => Or.inl trivial
    iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  isplitl [H15]
  · iexists f15; isplitr; · ipureintro; exact e15
    iexact H15
  isplitl [H16]
  · iexists f16; isplitr; · ipureintro; exact e16
    iexact H16
  isplitl [H17]
  · iexists f17; isplitr; · ipureintro; exact e17
    iexact H17
  iexists fo; isplitr; swap; · iexact H18
  ipureintro
  rw [e0, e1, e2, e3, e4, e5, e6, e7, e8, e9, e10, e11, e12, e13, e14, e15, e16, e17] at eo
  exact eo

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The program up to the launch: the reshapes of the arguments. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The program's run: every execution ends, with the arrays as the proof data say, every other array as the region found it
    and every semaphore at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 hbms0 hbms0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

set_option maxHeartbeats 1600000 in
/-- THE FRAME: every execution ends with the arguments as they were and every semaphore at zero. -/
theorem frame_holds :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 11).trans (((dats m 0 c).arrAt_in 11 rfl _).trans ((A_eq m c 11).trans (V_main_arg3 m c))),
      ((h.1 c).1 17).trans (((dats m 0 c).arrAt_in 17 rfl _).trans ((A_eq m c 17).trans (V_main_arg4 m c))),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).1 8).trans (((dats m 0 c).arrAt_in 8 rfl _).trans ((A_eq m c 8).trans (V_main_arg9 m c))),
      ((h.1 c).1 9).trans (((dats m 0 c).arrAt_in 9 rfl _).trans ((A_eq m c 9).trans (V_main_arg10 m c))),
      ((h.1 c).2 main_arg11 (Pipeline.mem_restRefs_of main_arg11 (by decide) (by decide))).trans (V_main_arg11 m c),
      ((h.1 c).1 14).trans (((dats m 0 c).arrAt_in 14 rfl _).trans ((A_eq m c 14).trans (V_main_arg12 m c))),
      ((h.1 c).1 15).trans (((dats m 0 c).arrAt_in 15 rfl _).trans ((A_eq m c 15).trans (V_main_arg13 m c))),
      ((h.1 c).2 main_arg14 (Pipeline.mem_restRefs_of main_arg14 (by decide) (by decide))).trans (V_main_arg14 m c),
      ((h.1 c).1 0).trans (((dats m 0 c).arrAt_in 0 rfl _).trans ((A_eq m c 0).trans (V_main_arg15 m c))),
      ((h.1 c).2 main_arg16 (Pipeline.mem_restRefs_of main_arg16 (by decide) (by decide))).trans (V_main_arg16 m c),
      ((h.1 c).1 4).trans (((dats m 0 c).arrAt_in 4 rfl _).trans ((A_eq m c 4).trans (V_main_arg17 m c))),
      ((h.1 c).2 main_arg18 (Pipeline.mem_restRefs_of main_arg18 (by decide) (by decide))).trans (V_main_arg18 m c),
      ((h.1 c).1 2).trans (((dats m 0 c).arrAt_in 2 rfl _).trans ((A_eq m c 2).trans (V_main_arg19 m c))),
      ((h.1 c).2 main_arg20 (Pipeline.mem_restRefs_of main_arg20 (by decide) (by decide))).trans (V_main_arg20 m c)⟩, h.2⟩) (run_main m ρ)

end Cert.KernelIdeal.Hand

end
-- ==== Proof.KernelIdealReads.lean ====
/-
  WHAT THE REGION FINDS of the program's arguments: the reshaped arrays and the staged blocks at an index.
-/
module

public import proofs.«01_k».proof.Proof.KernelIdealFrame
public import Idealize.ShloMosaic.Lib.StableHlo.ReadAt
public import Idealize.ShloMosaic.Lib.Pointwise
public import Idealize.ShloMosaic.Lib.Pointwise.IndexBridge

@[expose] public section

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The first array that the kernel copies: a sample's nodes in one row. -/
theorem x0_at (b : Fin 1024) (k : Fin 400) :
    V m c main_call0_v0 (ix2 b k) = m ((c : Thread nD τ).loc main_arg0) (ix3 b (Fin.ofNat 16 (k / 25)) (Fin.ofNat 25 (k % 25))) := by
  unfold V
  after_reads_at
  have hk := k.isLt
  have e1 : (⟨k.val / 25, by omega⟩ : Fin 16) = Fin.ofNat 16 (k / 25) := Fin.ext (Nat.mod_eq_of_lt (by omega)).symm
  have e2 : (⟨k.val % 25, by omega⟩ : Fin 25) = Fin.ofNat 25 (k % 25) := Fin.ext (Nat.mod_eq_of_lt (by omega)).symm
  rw [e1, e2]

/-- The second array that the kernel copies: a sample's nodes in one row. -/
theorem x1_at (b : Fin 1024) (k : Fin 300) :
    V m c main_call0_v1 (ix2 b k) = m ((c : Thread nD τ).loc main_arg1) (ix3 b (Fin.ofNat 12 (k / 25)) (Fin.ofNat 25 (k % 25))) := by
  unfold V
  after_reads_at
  have hk := k.isLt
  have e1 : (⟨k.val / 25, by omega⟩ : Fin 12) = Fin.ofNat 12 (k / 25) := Fin.ext (Nat.mod_eq_of_lt (by omega)).symm
  have e2 : (⟨k.val % 25, by omega⟩ : Fin 25) = Fin.ofNat 25 (k % 25) := Fin.ext (Nat.mod_eq_of_lt (by omega)).symm
  rw [e1, e2]

/-- Window 0 names its one block. -/
theorem idx0 : ∀ a, win0_0.index t0_0 a = 0 := by decide +kernel
/-- Staged block 0 is argument 15. -/
theorem blk0_at (i j) : iblk m c 0 t0_0 (ix2 i j) = m ((c : Thread nD τ).loc main_arg15) (ix2 i j) := by
  blk_ext! [iblk, V, idx0]

/-- Window 1 names its one block. -/
theorem idx1 : ∀ a, win0_1.index t0_0 a = 0 := by decide +kernel
/-- Staged block 1 is argument 16 as a row. -/
theorem blk1_at (j) : iblk m c 1 t0_0 (ix2 0 j) = m ((c : Thread nD τ).loc main_arg16) (ix1 j) := by
  blk_ext! [iblk, V, idx1]

/-- Window 2 names its one block. -/
theorem idx2 : ∀ a, win0_2.index t0_0 a = 0 := by decide +kernel
/-- Staged block 2 is argument 19. -/
theorem blk2_at (i j) : iblk m c 2 t0_0 (ix2 i j) = m ((c : Thread nD τ).loc main_arg19) (ix2 i j) := by
  blk_ext! [iblk, V, idx2]

/-- Window 3 names its one block. -/
theorem idx3 : ∀ a, win0_3.index t0_0 a = 0 := by decide +kernel
/-- Staged block 3 is argument 20 as a row. -/
theorem blk3_at (j) : iblk m c 3 t0_0 (ix2 0 j) = m ((c : Thread nD τ).loc main_arg20) (ix1 j) := by
  blk_ext! [iblk, V, idx3]

/-- Window 4 names its one block. -/
theorem idx4 : ∀ a, win0_4.index t0_0 a = 0 := by decide +kernel
/-- Staged block 4 is argument 17. -/
theorem blk4_at (i j) : iblk m c 4 t0_0 (ix2 i j) = m ((c : Thread nD τ).loc main_arg17) (ix2 i j) := by
  blk_ext! [iblk, V, idx4]

/-- Window 5 names its one block. -/
theorem idx5 : ∀ a, win0_5.index t0_0 a = 0 := by decide +kernel
/-- Staged block 5 is argument 18 as a row. -/
theorem blk5_at (j) : iblk m c 5 t0_0 (ix2 0 j) = m ((c : Thread nD τ).loc main_arg18) (ix1 j) := by
  blk_ext! [iblk, V, idx5]

/-- Window 6 names its one block. -/
theorem idx6 : ∀ a, win0_6.index t0_0 a = 0 := by decide +kernel
/-- Staged block 6 is argument 5 without its axis of extent one. -/
theorem blk6_at (i j) : iblk m c 6 t0_0 (ix2 i j) = m ((c : Thread nD τ).loc main_arg5) (ix3 i 0 j) := by
  blk_ext! [iblk, V, idx6]

/-- Window 7 names its one block. -/
theorem idx7 : ∀ a, win0_7.index t0_0 a = 0 := by decide +kernel
/-- Staged block 7 is argument 6 as a row. -/
theorem blk7_at (j) : iblk m c 7 t0_0 (ix2 0 j) = m ((c : Thread nD τ).loc main_arg6) (ix1 j) := by
  blk_ext! [iblk, V, idx7]

/-- Window 8 names its one block. -/
theorem idx8 : ∀ a, win0_8.index t0_0 a = 0 := by decide +kernel
/-- Staged block 8 is argument 9. -/
theorem blk8_at (i j) : iblk m c 8 t0_0 (ix2 i j) = m ((c : Thread nD τ).loc main_arg9) (ix2 i j) := by
  blk_ext! [iblk, V, idx8]

/-- Window 9 names its one block. -/
theorem idx9 : ∀ a, win0_9.index t0_0 a = 0 := by decide +kernel
/-- Staged block 9 is argument 10. -/
theorem blk9_at (i j) : iblk m c 9 t0_0 (ix2 i j) = m ((c : Thread nD τ).loc main_arg10) (ix2 i j) := by
  blk_ext! [iblk, V, idx9]

/-- Window 10 names its one block. -/
theorem idx10 : ∀ a, win0_10.index t0_0 a = 0 := by decide +kernel
/-- Staged block 10 is argument 11 as a row. -/
theorem blk10_at (j) : iblk m c 10 t0_0 (ix2 0 j) = m ((c : Thread nD τ).loc main_arg11) (ix1 j) := by
  blk_ext! [iblk, V, idx10]

/-- Window 11 names its one block. -/
theorem idx11 : ∀ a, win0_11.index t0_0 a = 0 := by decide +kernel
/-- Staged block 11 is argument 3. -/
theorem blk11_at (i j) : iblk m c 11 t0_0 (ix2 i j) = m ((c : Thread nD τ).loc main_arg3) (ix2 i j) := by
  blk_ext! [iblk, V, idx11]

/-- Window 12 names its one block. -/
theorem idx12 : ∀ a, win0_12.index t0_0 a = 0 := by decide +kernel
/-- Staged block 12 is argument 7 without its axis of extent one. -/
theorem blk12_at (i j) : iblk m c 12 t0_0 (ix2 i j) = m ((c : Thread nD τ).loc main_arg7) (ix3 i 0 j) := by
  blk_ext! [iblk, V, idx12]

/-- Window 13 names its one block. -/
theorem idx13 : ∀ a, win0_13.index t0_0 a = 0 := by decide +kernel
/-- Staged block 13 is argument 8 as a row. -/
theorem blk13_at (j) : iblk m c 13 t0_0 (ix2 0 j) = m ((c : Thread nD τ).loc main_arg8) (ix1 j) := by
  blk_ext! [iblk, V, idx13]

/-- Window 14 names its one block. -/
theorem idx14 : ∀ a, win0_14.index t0_0 a = 0 := by decide +kernel
/-- Staged block 14 is argument 12. -/
theorem blk14_at (i j) : iblk m c 14 t0_0 (ix2 i j) = m ((c : Thread nD τ).loc main_arg12) (ix2 i j) := by
  blk_ext! [iblk, V, idx14]

/-- Window 15 names its one block. -/
theorem idx15 : ∀ a, win0_15.index t0_0 a = 0 := by decide +kernel
/-- Staged block 15 is argument 13. -/
theorem blk15_at (i j) : iblk m c 15 t0_0 (ix2 i j) = m ((c : Thread nD τ).loc main_arg13) (ix2 i j) := by
  blk_ext! [iblk, V, idx15]

/-- Window 16 names its one block. -/
theorem idx16 : ∀ a, win0_16.index t0_0 a = 0 := by decide +kernel
/-- Staged block 16 is argument 14 as a row. -/
theorem blk16_at (j) : iblk m c 16 t0_0 (ix2 0 j) = m ((c : Thread nD τ).loc main_arg14) (ix1 j) := by
  blk_ext! [iblk, V, idx16]

/-- Window 17 names its one block. -/
theorem idx17 : ∀ a, win0_17.index t0_0 a = 0 := by decide +kernel
/-- Staged block 17 is argument 4. -/
theorem blk17_at (i j) : iblk m c 17 t0_0 (ix2 i j) = m ((c : Thread nD τ).loc main_arg4) (ix2 i j) := by
  blk_ext! [iblk, V, idx17]

end Cert.KernelIdeal.Hand
-- ==== Proof.Up.lean ====
/-
  ARRAYS OF REALS. `up a` is the two-dimensional array whose entry `(i, j)` is the real `a i j`. The lemmas say what each operation of the
  kernel makes of such arrays at the ideal instance: again such an array, with the entries the operation's definition says. They
  are equations between whole arrays, so that a program's text is evaluated by rewriting, one operation at a time, at any extents.
-/
module

public import Idealize.ShloMosaic.PureOps.Ideal.Laws
public import Idealize.ShloMosaic.Lib.ValueIdx
public import Idealize.ShloMosaic.Lib.Pipeline.Value
public import Idealize.ShloMosaic.Lib.MatmulPlain
public import Idealize.ShloMosaic.Lib.Pointwise.Contract

@[expose] public section

noncomputable section

namespace Cert.Up

open Idealize.ShloMosaic
open Idealize.ShloMosaic.ValueIdx (ix2 eq_ix2)
open scoped BigOperators

variable {m n k : ℕ} {φ ψ : FTy}

/-- The array of the reals `a i j`. -/
def up (φ : FTy) {m n : ℕ} (a : Fin m → Fin n → ℝ) : FVec Ideal ⟨2, ![m, n]⟩ φ := fun i => ((a (i 0) (i 1) : ℝ) : EReal)

theorem up_at (a : Fin m → Fin n → ℝ) (i : Fin m) (j : Fin n) : up φ a (ValueIdx.ix2 i j) = ((a i j : ℝ) : EReal) := rfl

/-- An array all of whose entries are reals is the array of those reals. -/
theorem eq_up (x : FVec Ideal ⟨2, ![m, n]⟩ φ) (a : Fin m → Fin n → ℝ) (h : ∀ i j, x (ValueIdx.ix2 i j) = ((a i j : ℝ) : EReal)) : x = up φ a := by
  funext i
  rw [ValueIdx.eq_ix2 i]
  exact h _ _

/-! ## Elementwise operations -/

theorem addf_up (a b : Fin m → Fin n → ℝ) : addf (up φ a) (up φ b) = up φ (fun i j => a i j + b i j) := by
  funext i; exact (EReal.coe_add _ _).symm
theorem subf_up (a b : Fin m → Fin n → ℝ) : subf (up φ a) (up φ b) = up φ (fun i j => a i j - b i j) := by
  funext i; exact (EReal.coe_sub _ _).symm
theorem mulf_up (a b : Fin m → Fin n → ℝ) : mulf (up φ a) (up φ b) = up φ (fun i j => a i j * b i j) := by
  funext i; exact (EReal.coe_mul _ _).symm
theorem maximumf_up (a b : Fin m → Fin n → ℝ) : maximumf (up φ a) (up φ b) = up φ (fun i j => max (a i j) (b i j)) := by
  funext i; exact (EReal.coe_strictMono.monotone.map_max).symm
theorem truncf_up (a : Fin m → Fin n → ℝ) (h : FTy.bits ψ < FTy.bits φ) : truncf ψ (up φ a) h = up ψ a := rfl
theorem shapeCast_up (a : Fin m → Fin n → ℝ) (h : (⟨2, ![m, n]⟩ : Shape).ShapeCasts ⟨2, ![m, n]⟩) :
    shapeCast ⟨2, ![m, n]⟩ (up φ a) h = up φ a := shapeCast_self _ _
theorem floor_up (a : Fin m → Fin n → ℝ) : floor (up φ a) = up φ (fun i j => (⌊a i j⌋ : ℝ)) := rfl

/-- The reciprocal square root of positive entries. -/
theorem rsqrt_up (a : Fin m → Fin n → ℝ) (h : ∀ i j, 0 < a i j) : rsqrt (up φ a) = up φ (fun i j => (Real.sqrt (a i j))⁻¹) := by
  funext i
  have := h (i 0) (i 1)
  show Ideal.rsqrt ((a (i 0) (i 1) : ℝ) : EReal) = _
  rw [Ideal.rsqrt_coe, if_neg (not_lt.mpr this.le), if_neg this.ne']
  rfl

/-! ## Constants -/

/-- The real a 32-bit pattern denotes, by name: one half, 10737418 / 2²⁸ (just below one over 25), 25, 1/64, 64, 1, -1 and 0. -/
theorem half_eq : (Scalar.ofBits .f32 0x3F000000#32 : Ideal .f32) = ((1 / 2 : ℝ) : EReal) := by
  show Ideal.ofBits .f32 0x3F000000#32 = _
  simp [Ideal.ofBits, Ideal.ieee, -EReal.coe_mul]; norm_num
theorem c25_eq : (Scalar.ofBits .f32 0x3D23D70A#32 : Ideal .f32) = ((10737418 / 2 ^ 28 : ℝ) : EReal) := by
  show Ideal.ofBits .f32 0x3D23D70A#32 = _
  simp [Ideal.ofBits, Ideal.ieee, -EReal.coe_mul]; norm_num
theorem n25_eq : (Scalar.ofBits .f32 0x41C80000#32 : Ideal .f32) = ((25 : ℝ) : EReal) := by
  show Ideal.ofBits .f32 0x41C80000#32 = _
  simp [Ideal.ofBits, Ideal.ieee, -EReal.coe_mul]; norm_num
theorem c64_eq : (Scalar.ofBits .f32 0x3C800000#32 : Ideal .f32) = ((1 / 64 : ℝ) : EReal) := by
  show Ideal.ofBits .f32 0x3C800000#32 = _
  simp [Ideal.ofBits, Ideal.ieee, -EReal.coe_mul]; norm_num
theorem n64_eq : (Scalar.ofBits .f32 0x42800000#32 : Ideal .f32) = ((64 : ℝ) : EReal) := by
  show Ideal.ofBits .f32 0x42800000#32 = _
  simp [Ideal.ofBits, Ideal.ieee, -EReal.coe_mul]; norm_num
theorem one_eq : (Scalar.ofBits .f32 0x3F800000#32 : Ideal .f32) = ((1 : ℝ) : EReal) := by
  show Ideal.ofBits .f32 0x3F800000#32 = _
  simp [Ideal.ofBits, Ideal.ieee, -EReal.coe_mul]; norm_num
theorem neg_one_eq : (Scalar.ofBits .f32 0xBF800000#32 : Ideal .f32) = ((-1 : ℝ) : EReal) := by
  show Ideal.ofBits .f32 0xBF800000#32 = _
  simp [Ideal.ofBits, Ideal.ieee, -EReal.coe_mul, -EReal.coe_neg]; norm_num
theorem zero_eq : (Scalar.ofBits .f32 0x00000000#32 : Ideal .f32) = ((0 : ℝ) : EReal) := by
  show Ideal.ofBits .f32 0x00000000#32 = _
  simp [Ideal.ofBits, Ideal.ieee]
/-- The floor under a degree: a positive real far below one. -/
def tiny : ℝ := 10633824 / 2 ^ 123
theorem tiny_pos : 0 < tiny := by unfold tiny; positivity
theorem tiny_le_one : tiny ≤ 1 := by unfold tiny; norm_num
theorem tiny_eq : (Scalar.ofBits .f32 0x0DA24260#32 : Ideal .f32) = ((tiny : ℝ) : EReal) := by
  show Ideal.ofBits .f32 0x0DA24260#32 = _
  unfold tiny
  simp [Ideal.ofBits, Ideal.ieee, -EReal.coe_mul]; norm_num

theorem broadcast_up (c : ℝ) : broadcast (⟨2, ![m, n]⟩ : Shape) ((c : ℝ) : EReal) = up .f32 (fun _ _ => c) := rfl

/-! ## Counting arrays and selectors -/

/-- A small number, as a word, is that number. -/
theorem toInt_small (x : ℕ) (h : x < 2 ^ 31) : (BitVec.ofNat 32 x).toInt = (x : ℤ) := by
  rw [BitVec.toInt_eq_toNat_of_lt] <;> rw [BitVec.toNat_ofNat, Nat.mod_eq_of_lt (by omega)]
  omega

/-- The counting array of axis 0, as reals. -/
theorem iota0_up (h : (⟨2, ![m, n]⟩ : Shape).Iotas .tc 32 [0]) (hm : m ≤ 1024) :
    sitofp .f32 (iota .tc (⟨2, ![m, n]⟩ : Shape) 32 [0] h) = up .f32 (fun i _ => ((i : ℕ) : ℝ)) := by
  funext i
  have hi : (i 0).val < m := (i 0).isLt
  show ((((BitVec.ofNat 32 (0 * m + (i 0).val)).toInt : ℤ) : ℝ) : EReal) = _
  rw [Nat.zero_mul, Nat.zero_add, toInt_small _ (by omega)]
  simp [up]
/-- The counting array of axis 1, as reals. -/
theorem iota1_up (h : (⟨2, ![m, n]⟩ : Shape).Iotas .tc 32 [1]) (hn : n ≤ 1024) :
    sitofp .f32 (iota .tc (⟨2, ![m, n]⟩ : Shape) 32 [1] h) = up .f32 (fun _ j => ((j : ℕ) : ℝ)) := by
  funext i
  have hi : (i 1).val < n := (i 1).isLt
  show ((((BitVec.ofNat 32 (0 * n + (i 1).val)).toInt : ℤ) : ℝ) : EReal) = _
  rw [Nat.zero_mul, Nat.zero_add, toInt_small _ (by omega)]
  simp [up]

/-- One where the two entries are equal, zero elsewhere. -/
theorem onehot_up (a b : Fin m → Fin n → ℝ) (h : 1 < 32) :
    sitofp .f32 (extui 32 (cmpf .oeq (up φ a) (up φ b)) h) = up .f32 (fun i j => if a i j = b i j then 1 else 0) := by
  funext i
  show ((((BitVec.setWidth 32 (BitVec.ofBool (decide (((a (i 0) (i 1) : ℝ) : EReal) = ((b (i 0) (i 1) : ℝ) : EReal))))).toInt : ℤ) : ℝ) : EReal)
    = (((if a (i 0) (i 1) = b (i 0) (i 1) then 1 else 0 : ℝ)) : EReal)
  by_cases e : a (i 0) (i 1) = b (i 0) (i 1)
  · rw [if_pos e, decide_eq_true (by rw [e])]; simp
  · rw [if_neg e, decide_eq_false (by rwa [EReal.coe_eq_coe_iff])]; simp

/-- The choice by a strict comparison. -/
theorem select_up (a b x y : Fin m → Fin n → ℝ) :
    select (cmpf .ogt (up φ a) (up φ b)) (up ψ x) (up ψ y) = up ψ (fun i j => if b i j < a i j then x i j else y i j) := by
  funext i
  show (if BitVec.ofBool (decide (((b (i 0) (i 1) : ℝ) : EReal) < ((a (i 0) (i 1) : ℝ) : EReal))) = 1#1 then (x (i 0) (i 1) : EReal) else (y (i 0) (i 1) : EReal))
    = (((if b (i 0) (i 1) < a (i 0) (i 1) then x (i 0) (i 1) else y (i 0) (i 1) : ℝ)) : EReal)
  by_cases e : b (i 0) (i 1) < a (i 0) (i 1)
  · rw [if_pos e, decide_eq_true (by rwa [EReal.coe_lt_coe_iff])]; rfl
  · rw [if_neg e, decide_eq_false (by rwa [EReal.coe_lt_coe_iff])]; rfl

/-- One at the rows a word names, zero elsewhere. -/
theorem rowhot_up (idx : IVec ⟨2, ![1, n]⟩ 32) (hI : (⟨2, ![m, n]⟩ : Shape).Iotas .tc 32 [0]) (hb : (⟨2, ![1, n]⟩ : Shape).Broadcasts ⟨2, ![m, n]⟩)
    (h : 1 < 32) :
    sitofp .f32 (extui 32 (cmpi .eq (iota .tc (⟨2, ![m, n]⟩ : Shape) 32 [0] hI) (broadcastTo ⟨2, ![m, n]⟩ idx hb)) h)
      = up .f32 (fun i j => if BitVec.ofNat 32 i.val = idx (ValueIdx.ix2 0 j) then 1 else 0) := by
  funext i
  have e1 : broadcastTo ⟨2, ![m, n]⟩ idx hb i = idx (ValueIdx.ix2 0 (i 1)) :=
    broadcastTo_apply idx hb i _ fun a => by
      match a with
      | ⟨0, _⟩ => rfl
      | ⟨1, _⟩ =>
        by_cases hn : n = 1
        · subst hn; have : (i 1).val < 1 := (i 1).isLt
          simp; omega
        · simp [hn]
  show ((((BitVec.setWidth 32 (BitVec.ofBool (BitVec.ofNat 32 (0 * m + (i 0).val) == broadcastTo ⟨2, ![m, n]⟩ idx hb i))).toInt : ℤ) : ℝ) : EReal)
    = (((if BitVec.ofNat 32 (i 0).val = idx (ValueIdx.ix2 0 (i 1)) then 1 else 0 : ℝ)) : EReal)
  rw [e1, Nat.zero_mul, Nat.zero_add]
  by_cases e : BitVec.ofNat 32 (i 0).val = idx (ValueIdx.ix2 0 (i 1))
  · rw [if_pos e, beq_iff_eq.mpr e]; simp
  · rw [if_neg e, beq_eq_false_iff_ne.mpr e]; simp

/-! ## Rows, columns and slices -/

theorem broadcastRow_up (a : Fin 1 → Fin n → ℝ) (h : (⟨2, ![1, n]⟩ : Shape).Broadcasts ⟨2, ![m, n]⟩) :
    broadcastTo ⟨2, ![m, n]⟩ (up φ a) h = up φ (fun _ j => a 0 j) := by
  funext i
  refine (broadcastTo_apply (up φ a) h i (ValueIdx.ix2 0 (i 1)) fun p => ?_).trans rfl
  match p with
  | ⟨0, _⟩ => rfl
  | ⟨1, _⟩ =>
    by_cases hn : n = 1
    · subst hn; have : (i 1).val < 1 := (i 1).isLt
      simp; omega
    · simp [hn]
theorem broadcastCol_up (a : Fin m → Fin 1 → ℝ) (h : (⟨2, ![m, 1]⟩ : Shape).Broadcasts ⟨2, ![m, n]⟩) :
    broadcastTo ⟨2, ![m, n]⟩ (up φ a) h = up φ (fun i _ => a i 0) := by
  funext i
  refine (broadcastTo_apply (up φ a) h i (ValueIdx.ix2 (i 0) 0) fun p => ?_).trans rfl
  match p with
  | ⟨0, _⟩ =>
    by_cases hm : m = 1
    · subst hm; have : (i 0).val < 1 := (i 0).isLt
      simp; omega
    · simp [hm]
  | ⟨1, _⟩ => rfl
theorem slice_up (r : ℕ) (hr : r < m) (a : Fin m → Fin n → ℝ) (h : (⟨2, ![m, n]⟩ : Shape).Slices ![r, 0] ⟨2, ![1, n]⟩) :
    extractStridedSlice ⟨2, ![1, n]⟩ ![r, 0] (up φ a) h = up φ (fun _ j => a ⟨r, hr⟩ j) := by
  funext i
  refine (extractStridedSlice_apply ![r, 0] (up φ a) h i (ValueIdx.ix2 ⟨r, hr⟩ (i 1)) fun p => ?_).trans rfl
  match p with
  | ⟨0, _⟩ => have : (i 0).val < 1 := (i 0).isLt
              simp; omega
  | ⟨1, _⟩ => simp

/-! ## Products -/

/-- A finite sum of reals, among the extended reals. -/
theorem coe_sum {ι : Type*} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- The matrix product. -/
theorem mm_up (prec : Option ContractPrecision) (a : Fin m → Fin k → ℝ) (b : Fin k → Fin n → ℝ) :
    matmul (DotDims.plain m k n) prec (up φ a) (up ψ b) (constant (⟨2, ![m, n]⟩ : Shape) .f32 0x00000000#32)
      = up .f32 (fun i j => ∑ q, a i q * b q j) := by
  refine eq_up _ _ fun i j => ?_
  refine (Ideal.matmul_plain_apply prec (up φ a) (up ψ b) _ i j).trans ?_
  rw [show (constant (F := Ideal) (⟨2, ![m, n]⟩ : Shape) .f32 0x00000000#32) (ValueIdx.ix2 i j) = ((0 : ℝ) : EReal) from zero_eq, EReal.coe_zero, zero_add, ← coe_sum]
  exact Finset.sum_congr rfl fun q _ => (EReal.coe_mul _ _).symm

/-- The product with the second factor transposed. -/
theorem mmT_up (prec : Option ContractPrecision) (a : Fin m → Fin k → ℝ) (b : Fin n → Fin k → ℝ) :
    matmul (DotDims.transposedRhs m k n) prec (up φ a) (up ψ b) (constant (⟨2, ![m, n]⟩ : Shape) .f32 0x00000000#32)
      = up .f32 (fun i j => ∑ q, a i q * b j q) := by
  refine eq_up _ _ fun i j => ?_
  refine (Ideal.matmul_transposedRhs_apply prec (up φ a) (up ψ b) _ i j).trans ?_
  rw [show (constant (F := Ideal) (⟨2, ![m, n]⟩ : Shape) .f32 0x00000000#32) (ValueIdx.ix2 i j) = ((0 : ℝ) : EReal) from zero_eq, EReal.coe_zero, zero_add, ← coe_sum]
  exact Finset.sum_congr rfl fun q _ => (EReal.coe_mul _ _).symm

/-- The product with the first factor transposed (`d` contracts axis 0 of both). -/
theorem mmL_up (d : DotDims ⟨2, ![k, m]⟩ ⟨2, ![k, n]⟩ ⟨2, ![m, n]⟩) (hc : d.lhsContracting = [0])
    (hL : ∀ j q, Shape.Idx.norm (d.lhsIdx j (d.contrIdx₁ hc (K := k) rfl q)) = ValueIdx.ix2 q (j 0))
    (hR : ∀ j q, Shape.Idx.norm (d.rhsIdx j (d.contrIdx₁ hc (K := k) rfl q)) = ValueIdx.ix2 q (j 1))
    (prec : Option ContractPrecision) (a : Fin k → Fin m → ℝ) (b : Fin k → Fin n → ℝ) :
    matmul d prec (up φ a) (up ψ b) (constant (⟨2, ![m, n]⟩ : Shape) .f32 0x00000000#32)
      = up .f32 (fun i j => ∑ q, a q i * b q j) := by
  refine eq_up _ _ fun i j => ?_
  refine (Ideal.matmul_apply₁ d hc (K := k) rfl (up φ a) (up ψ b) _ (ValueIdx.ix2 i j)).trans ?_
  rw [show (constant (F := Ideal) (⟨2, ![m, n]⟩ : Shape) .f32 0x00000000#32) (ValueIdx.ix2 i j) = ((0 : ℝ) : EReal) from zero_eq, EReal.coe_zero, zero_add, ← coe_sum]
  refine Finset.sum_congr rfl fun q _ => ?_
  rw [hL, hR]
  exact (EReal.coe_mul _ _).symm

end Cert.Up

end
-- ==== Proof.KernelIdealDots.lean ====
/-
  The kernel's products by their dimension numbers: each is the plain matrix product or the product with the second factor transposed,
  and one contracts the rows of both. Then its counting arrays, as reals.
-/
module

public import proofs.«01_k».proof.KernelIdeal
public import proofs.«01_k».proof.Proof.Up

@[expose] public section

noncomputable section

namespace Cert.KernelIdeal.Hand

open Cert.KernelIdeal
open Idealize.ShloMosaic Cert.Up
open scoped BigOperators

/-! The counting arrays. -/

theorem iota0_S12x24 (h : S12x24.Iotas .tc 32 [0]) : sitofp (F := Ideal) .f32 (iota .tc S12x24 32 [0] h) = up .f32 (fun i _ => ((i : ℕ) : ℝ)) := iota0_up h (by decide)
theorem iota0_S12x768 (h : S12x768.Iotas .tc 32 [0]) : sitofp (F := Ideal) .f32 (iota .tc S12x768 32 [0] h) = up .f32 (fun i _ => ((i : ℕ) : ℝ)) := iota0_up h (by decide)
theorem iota1_S12x768 (h : S12x768.Iotas .tc 32 [1]) : sitofp (F := Ideal) .f32 (iota .tc S12x768 32 [1] h) = up .f32 (fun _ j => ((j : ℕ) : ℝ)) := iota1_up h (by decide)
theorem iota0_S16x1024 (h : S16x1024.Iotas .tc 32 [0]) : sitofp (F := Ideal) .f32 (iota .tc S16x1024 32 [0] h) = up .f32 (fun i _ => ((i : ℕ) : ℝ)) := iota0_up h (by decide)
theorem iota1_S16x1024 (h : S16x1024.Iotas .tc 32 [1]) : sitofp (F := Ideal) .f32 (iota .tc S16x1024 32 [1] h) = up .f32 (fun _ j => ((j : ℕ) : ℝ)) := iota1_up h (by decide)
theorem iota0_S16x32 (h : S16x32.Iotas .tc 32 [0]) : sitofp (F := Ideal) .f32 (iota .tc S16x32 32 [0] h) = up .f32 (fun i _ => ((i : ℕ) : ℝ)) := iota0_up h (by decide)
theorem iota0_S25x800 (h : S25x800.Iotas .tc 32 [0]) : sitofp (F := Ideal) .f32 (iota .tc S25x800 32 [0] h) = up .f32 (fun i _ => ((i : ℕ) : ℝ)) := iota0_up h (by decide)
theorem iota1_S25x800 (h : S25x800.Iotas .tc 32 [1]) : sitofp (F := Ideal) .f32 (iota .tc S25x800 32 [1] h) = up .f32 (fun _ j => ((j : ℕ) : ℝ)) := iota1_up h (by decide)
theorem iota0_S300x12 (h : S300x12.Iotas .tc 32 [0]) : sitofp (F := Ideal) .f32 (iota .tc S300x12 32 [0] h) = up .f32 (fun i _ => ((i : ℕ) : ℝ)) := iota0_up h (by decide)
theorem iota1_S300x12 (h : S300x12.Iotas .tc 32 [1]) : sitofp (F := Ideal) .f32 (iota .tc S300x12 32 [1] h) = up .f32 (fun _ j => ((j : ℕ) : ℝ)) := iota1_up h (by decide)
theorem iota0_S300x25 (h : S300x25.Iotas .tc 32 [0]) : sitofp (F := Ideal) .f32 (iota .tc S300x25 32 [0] h) = up .f32 (fun i _ => ((i : ℕ) : ℝ)) := iota0_up h (by decide)
theorem iota1_S300x25 (h : S300x25.Iotas .tc 32 [1]) : sitofp (F := Ideal) .f32 (iota .tc S300x25 32 [1] h) = up .f32 (fun _ j => ((j : ℕ) : ℝ)) := iota1_up h (by decide)
theorem iota0_S32x800 (h : S32x800.Iotas .tc 32 [0]) : sitofp (F := Ideal) .f32 (iota .tc S32x800 32 [0] h) = up .f32 (fun i _ => ((i : ℕ) : ℝ)) := iota0_up h (by decide)
theorem iota1_S32x800 (h : S32x800.Iotas .tc 32 [1]) : sitofp (F := Ideal) .f32 (iota .tc S32x800 32 [1] h) = up .f32 (fun _ j => ((j : ℕ) : ℝ)) := iota1_up h (by decide)
theorem iota0_S400x16 (h : S400x16.Iotas .tc 32 [0]) : sitofp (F := Ideal) .f32 (iota .tc S400x16 32 [0] h) = up .f32 (fun i _ => ((i : ℕ) : ℝ)) := iota0_up h (by decide)
theorem iota1_S400x16 (h : S400x16.Iotas .tc 32 [1]) : sitofp (F := Ideal) .f32 (iota .tc S400x16 32 [1] h) = up .f32 (fun _ j => ((j : ℕ) : ℝ)) := iota1_up h (by decide)
theorem iota0_S400x25 (h : S400x25.Iotas .tc 32 [0]) : sitofp (F := Ideal) .f32 (iota .tc S400x25 32 [0] h) = up .f32 (fun i _ => ((i : ℕ) : ℝ)) := iota0_up h (by decide)
theorem iota1_S400x25 (h : S400x25.Iotas .tc 32 [1]) : sitofp (F := Ideal) .f32 (iota .tc S400x25 32 [1] h) = up .f32 (fun _ j => ((j : ℕ) : ℝ)) := iota1_up h (by decide)
theorem iota0_S64x1024 (h : S64x1024.Iotas .tc 32 [0]) : sitofp (F := Ideal) .f32 (iota .tc S64x1024 32 [0] h) = up .f32 (fun i _ => ((i : ℕ) : ℝ)) := iota0_up h (by decide)
theorem iota1_S64x1024 (h : S64x1024.Iotas .tc 32 [1]) : sitofp (F := Ideal) .f32 (iota .tc S64x1024 32 [1] h) = up .f32 (fun _ j => ((j : ℕ) : ℝ)) := iota1_up h (by decide)
theorem iota0_S64x768 (h : S64x768.Iotas .tc 32 [0]) : sitofp (F := Ideal) .f32 (iota .tc S64x768 32 [0] h) = up .f32 (fun i _ => ((i : ℕ) : ℝ)) := iota0_up h (by decide)
theorem iota1_S64x768 (h : S64x768.Iotas .tc 32 [1]) : sitofp (F := Ideal) .f32 (iota .tc S64x768 32 [1] h) = up .f32 (fun _ j => ((j : ℕ) : ℝ)) := iota1_up h (by decide)

/-! The products. -/

variable [Facts]

theorem eq_dot_S1024x128_S128x1_S1024x1_1_0_0_1_n_n : dot_S1024x128_S128x1_S1024x1_1_0_0_1_n_n = DotDims.plain 1024 128 1 := rfl
theorem eq_dot_S1024x128_S128x64_S1024x64_1_0_0_1_n_n : dot_S1024x128_S128x64_S1024x64_1_0_0_1_n_n = DotDims.plain 1024 128 64 := rfl
theorem eq_dot_S1024x300_S300x128_S1024x128_1_0_0_1_n_n : dot_S1024x300_S300x128_S1024x128_1_0_0_1_n_n = DotDims.plain 1024 300 128 := rfl
theorem eq_dot_S1024x400_S400x128_S1024x128_1_0_0_1_n_n : dot_S1024x400_S400x128_S1024x128_1_0_0_1_n_n = DotDims.plain 1024 400 128 := rfl
theorem eq_dot_S1024x64_S64x128_S1024x128_1_0_0_1_n_n : dot_S1024x64_S64x128_S1024x128_1_0_0_1_n_n = DotDims.plain 1024 64 128 := rfl
theorem eq_dot_S12x24_S12x24_S12x12_1_1_0_0_n_n : dot_S12x24_S12x24_S12x12_1_1_0_0_n_n = DotDims.transposedRhs 12 24 12 := rfl
theorem eq_dot_S12x24_S24x1_S12x1_1_0_0_1_n_n : dot_S12x24_S24x1_S12x1_1_0_0_1_n_n = DotDims.plain 12 24 1 := rfl
theorem eq_dot_S16x32_S16x32_S16x16_1_1_0_0_n_n : dot_S16x32_S16x32_S16x16_1_1_0_0_n_n = DotDims.transposedRhs 16 32 16 := rfl
theorem eq_dot_S16x32_S32x1_S16x1_1_0_0_1_n_n : dot_S16x32_S32x1_S16x1_1_0_0_1_n_n = DotDims.plain 16 32 1 := rfl
theorem eq_dot_S1x12_S12x12_S1x12_1_1_0_0_n_n : dot_S1x12_S12x12_S1x12_1_1_0_0_n_n = DotDims.transposedRhs 1 12 12 := rfl
theorem eq_dot_S1x12_S12x768_S1x768_1_0_0_1_n_n : dot_S1x12_S12x768_S1x768_1_0_0_1_n_n = DotDims.plain 1 12 768 := rfl
theorem eq_dot_S1x16_S16x1024_S1x1024_1_0_0_1_n_n : dot_S1x16_S16x1024_S1x1024_1_0_0_1_n_n = DotDims.plain 1 16 1024 := rfl
theorem eq_dot_S1x16_S16x16_S1x16_1_1_0_0_n_n : dot_S1x16_S16x16_S1x16_1_1_0_0_n_n = DotDims.transposedRhs 1 16 16 := rfl
theorem eq_dot_S1x24_S12x24_S1x12_1_1_0_0_n_n : dot_S1x24_S12x24_S1x12_1_1_0_0_n_n = DotDims.transposedRhs 1 24 12 := rfl
theorem eq_dot_S1x32_S16x32_S1x16_1_1_0_0_n_n : dot_S1x32_S16x32_S1x16_1_1_0_0_n_n = DotDims.transposedRhs 1 32 16 := rfl
theorem eq_dot_S1x32_S32x800_S1x800_1_0_0_1_n_n : dot_S1x32_S32x800_S1x800_1_0_0_1_n_n = DotDims.plain 1 32 800 := rfl
theorem eq_dot_S1x64_S64x128_S1x128_1_0_0_1_n_n : dot_S1x64_S64x128_S1x128_1_0_0_1_n_n = DotDims.plain 1 64 128 := rfl
theorem eq_dot_S1x800_S800x64_S1x64_1_0_0_1_n_n : dot_S1x800_S800x64_S1x64_1_0_0_1_n_n = DotDims.plain 1 800 64 := rfl
theorem eq_dot_S25x800_S800x64_S25x64_1_0_0_1_n_n : dot_S25x800_S800x64_S25x64_1_0_0_1_n_n = DotDims.plain 25 800 64 := rfl
theorem eq_dot_S300x12_S12x12_S300x12_1_1_0_0_n_n : dot_S300x12_S12x12_S300x12_1_1_0_0_n_n = DotDims.transposedRhs 300 12 12 := rfl
theorem eq_dot_S300x12_S12x768_S300x768_1_0_0_1_n_n : dot_S300x12_S12x768_S300x768_1_0_0_1_n_n = DotDims.plain 300 12 768 := rfl
theorem eq_dot_S300x25_S25x64_S300x64_1_0_0_1_n_n : dot_S300x25_S25x64_S300x64_1_0_0_1_n_n = DotDims.plain 300 25 64 := rfl
theorem eq_dot_S300x64_S64x768_S300x768_1_0_0_1_n_n : dot_S300x64_S64x768_S300x768_1_0_0_1_n_n = DotDims.plain 300 64 768 := rfl
theorem eq_dot_S300x768_S768x128_S300x128_1_0_0_1_n_n : dot_S300x768_S768x128_S300x128_1_0_0_1_n_n = DotDims.plain 300 768 128 := rfl
theorem eq_dot_S400x1024_S1024x128_S400x128_1_0_0_1_n_n : dot_S400x1024_S1024x128_S400x128_1_0_0_1_n_n = DotDims.plain 400 1024 128 := rfl
theorem eq_dot_S400x16_S16x1024_S400x1024_1_0_0_1_n_n : dot_S400x16_S16x1024_S400x1024_1_0_0_1_n_n = DotDims.plain 400 16 1024 := rfl
theorem eq_dot_S400x16_S16x16_S400x16_1_1_0_0_n_n : dot_S400x16_S16x16_S400x16_1_1_0_0_n_n = DotDims.transposedRhs 400 16 16 := rfl
theorem eq_dot_S400x25_S25x64_S400x64_1_0_0_1_n_n : dot_S400x25_S25x64_S400x64_1_0_0_1_n_n = DotDims.plain 400 25 64 := rfl
theorem eq_dot_S400x64_S64x1024_S400x1024_1_0_0_1_n_n : dot_S400x64_S64x1024_S400x1024_1_0_0_1_n_n = DotDims.plain 400 64 1024 := rfl
theorem eq_dot_S64x1024_S1024x128_S64x128_1_0_0_1_n_n : dot_S64x1024_S1024x128_S64x128_1_0_0_1_n_n = DotDims.plain 64 1024 128 := rfl
theorem eq_dot_S64x768_S768x128_S64x128_1_0_0_1_n_n : dot_S64x768_S768x128_S64x128_1_0_0_1_n_n = DotDims.plain 64 768 128 := rfl

/-- The taps' product: the rows of both factors are contracted. -/
theorem taps_up (prec : Option ContractPrecision) (a : Fin 32 → Fin 3 → ℝ) (b : Fin 32 → Fin 800 → ℝ) :
    matmul dot_S32x3_S32x800_S3x800_0_0_1_1_n_n prec (up .f32 a) (up .f32 b) (constant S3x800 .f32 0x00000000#32)
      = up .f32 (fun i j => ∑ q, a q i * b q j) :=
  mmL_up _ rfl (fun j q => by funext a; match a with | ⟨0, _⟩ => rfl | ⟨1, _⟩ => rfl)
    (fun j q => by funext a; match a with | ⟨0, _⟩ => rfl | ⟨1, _⟩ => rfl) prec a b

end Cert.KernelIdeal.Hand

end
-- ==== Proof.Fold.lean ====
/-
  THE NUMBERS A FOLDED BRANCH IS MADE OF, over the reals and at any number of nodes and edges: quotients and remainders by a floor,
  sums against a selector, the banded matrix of the convolution, the weights of the propagation, and the matrix and the row a branch
  is folded to.
-/
module

public import Mathlib.Analysis.SpecialFunctions.Pow.Real
public import proofs.«01_k».proof.Proof.Up

@[expose] public section

noncomputable section

namespace Cert.Fold

open Idealize.ShloMosaic
open scoped BigOperators

/-! ## Quotients and remainders -/

/-- The floor of `(x + ½) · c`, `c` a little below one over 25, is the quotient by 25. -/
theorem floor25 (x : ℕ) (hx : x < 1024) : ((⌊((x : ℝ) + 1 / 2) * (10737418 / 2 ^ 28)⌋ : ℤ) : ℝ) = ((x / 25 : ℕ) : ℝ) := by
  have : ⌊((x : ℝ) + 1 / 2) * (10737418 / 2 ^ 28)⌋ = ((x / 25 : ℕ) : ℤ) := by
    rw [Int.floor_eq_iff]
    have hm := Nat.div_add_mod x 25
    have hr : x % 25 < 25 := Nat.mod_lt _ (by norm_num)
    generalize x / 25 = q at hm ⊢
    generalize x % 25 = r at hm hr
    have hq : q ≤ 41 := by omega
    have hq' : (q : ℝ) ≤ 41 := by exact_mod_cast hq
    have hr' : (r : ℝ) ≤ 24 := by exact_mod_cast Nat.le_of_lt_succ hr
    have h0 : (0 : ℝ) ≤ r := Nat.cast_nonneg _
    have h1 : (0 : ℝ) ≤ q := Nat.cast_nonneg _
    have e : (x : ℝ) = 25 * q + r := by rw [← hm]; push_cast; ring
    rw [e]
    push_cast
    constructor <;> nlinarith
  rw [this]; norm_cast

/-- The floor of `(x + ½) / 64` is the quotient by 64. -/
theorem floor64 (x : ℕ) : ((⌊((x : ℝ) + 1 / 2) * (1 / 64)⌋ : ℤ) : ℝ) = ((x / 64 : ℕ) : ℝ) := by
  have : ⌊((x : ℝ) + 1 / 2) * (1 / 64)⌋ = ((x / 64 : ℕ) : ℤ) := by
    rw [Int.floor_eq_iff]
    have hm := Nat.div_add_mod x 64
    have hr : x % 64 < 64 := Nat.mod_lt _ (by norm_num)
    generalize x / 64 = q at hm ⊢
    generalize x % 64 = r at hm hr
    have hr' : (r : ℝ) ≤ 63 := by exact_mod_cast Nat.le_of_lt_succ hr
    have h0 : (0 : ℝ) ≤ r := Nat.cast_nonneg _
    have e : (x : ℝ) = 64 * q + r := by rw [← hm]; push_cast; ring
    rw [e]
    push_cast
    constructor <;> nlinarith
  rw [this]; norm_cast

theorem mod25 (x : ℕ) : (x : ℝ) - 25 * ((x / 25 : ℕ) : ℝ) = ((x % 25 : ℕ) : ℝ) := by
  have h : ((25 * (x / 25) + x % 25 : ℕ) : ℝ) = x := congrArg _ (Nat.div_add_mod x 25)
  push_cast at h
  linarith
theorem mod64 (x : ℕ) : (x : ℝ) - 64 * ((x / 64 : ℕ) : ℝ) = ((x % 64 : ℕ) : ℝ) := by
  have h : ((64 * (x / 64) + x % 64 : ℕ) : ℝ) = x := congrArg _ (Nat.div_add_mod x 64)
  push_cast at h
  linarith

theorem diff_one (a b : ℕ) : (a : ℝ) - (b : ℝ) = 1 ↔ a = b + 1 := by
  rw [sub_eq_iff_eq_add, add_comm]; exact_mod_cast Iff.rfl
theorem diff_zero (a b : ℕ) : (a : ℝ) - (b : ℝ) = 0 ↔ a = b := by
  rw [sub_eq_zero]; exact_mod_cast Iff.rfl
theorem diff_neg_one (a b : ℕ) : (a : ℝ) - (b : ℝ) = -1 ↔ a + 1 = b := by
  rw [sub_eq_iff_eq_add, eq_comm, neg_add_eq_sub, sub_eq_iff_eq_add, eq_comm]; exact_mod_cast Iff.rfl

/-! ## Sums against a selector -/

/-- A sum against the selector of `x` is the term at `x`. -/
theorem sum_sel {n : ℕ} [NeZero n] (x : ℕ) (hx : x < n) (f : Fin n → ℝ) :
    ∑ q : Fin n, (if x = (q : ℕ) then 1 else 0) * f q = f (Fin.ofNat n x) := by
  rw [Finset.sum_eq_single (Fin.ofNat n x)]
  · rw [if_pos (by simp [Nat.mod_eq_of_lt hx]), one_mul]
  · intro q _ hq
    rw [if_neg (fun e => hq (Fin.ext (by simp [e]))), zero_mul]
  · intro h; exact absurd (Finset.mem_univ _) h
theorem sum_sel' {n : ℕ} [NeZero n] (x : ℕ) (hx : x < n) (f : Fin n → ℝ) :
    ∑ q : Fin n, f q * (if x = (q : ℕ) then 1 else 0) = f (Fin.ofNat n x) := by
  simp only [mul_comm (f _)]; exact sum_sel x hx f
theorem sum_lesel {n : ℕ} [NeZero n] (x : ℕ) (hx : x < n) (f : Fin n → ℝ) :
    ∑ q : Fin n, f q * (if (q : ℕ) = x then 1 else 0) = f (Fin.ofNat n x) := by
  simp only [eq_comm (b := x)]; exact sum_sel' x hx f

/-! ## The pieces of a branch -/

/-- The inverse square root of a degree, zero at degree zero. -/
def dis (x : ℝ) : ℝ := if 0 < x then (Real.sqrt (max x Up.tiny))⁻¹ else 0

/-- The banded matrix of the three-tap convolution: what position `τ` of a row contributes to feature `l` (channel `l / 25`, position
`l % 25`). -/
def band (w : Fin 32 → Fin 3 → ℝ) (τ : Fin 25) (l : Fin 800) : ℝ :=
  w (Fin.ofNat 32 (l / 25)) 0 * (if (l : ℕ) % 25 = τ + 1 then 1 else 0) + w (Fin.ofNat 32 (l / 25)) 1 * (if (l : ℕ) % 25 = τ then 1 else 0)
    + w (Fin.ofNat 32 (l / 25)) 2 * (if (l : ℕ) % 25 + 1 = τ then 1 else 0)

/-- The convolution followed by a feature weight. -/
def bandW (w : Fin 32 → Fin 3 → ℝ) (W : Fin 800 → Fin 64 → ℝ) (τ : Fin 25) (g : Fin 64) : ℝ := ∑ l, band w τ l * W l g

/-- The convolution's bias followed by a feature weight. -/
def biasW (cb : Fin 32 → ℝ) (W : Fin 800 → Fin 64 → ℝ) (g : Fin 64) : ℝ := ∑ l : Fin 800, cb (Fin.ofNat 32 (l / 25)) * W l g

variable {V E N M : ℕ}

/-- One where an edge's end (row `r` of the index array) is node `v`. -/
def hot (ei : IVec ⟨2, ![2, E]⟩ 32) (r : Fin 2) (v : Fin V) (e : Fin E) : ℝ := if BitVec.ofNat 32 v.val = ei (ValueIdx.ix2 r e) then 1 else 0

/-- A row of the index array. -/
theorem hot_slice (ei : IVec ⟨2, ![2, E]⟩ 32) (r : ℕ) (hr : r < 2) (h : (⟨2, ![2, E]⟩ : Shape).Slices ![r, 0] ⟨2, ![1, E]⟩) (e : Fin E) :
    extractStridedSlice ⟨2, ![1, E]⟩ ![r, 0] ei h (ValueIdx.ix2 0 e) = ei (ValueIdx.ix2 ⟨r, hr⟩ e) :=
  extractStridedSlice_apply ![r, 0] ei h _ _ fun p => by
    match p with
    | ⟨0, _⟩ => simp
    | ⟨1, _⟩ => simp

/-- The kernel's inverse square roots of degrees. -/
theorem dis_up {m n : ℕ} (d : Fin m → Fin n → ℝ) :
    select (cmpf .ogt (Up.up .f32 d) (Up.up .f32 (fun _ _ => 0))) (rsqrt (Up.up .f32 (fun i j => max (d i j) Up.tiny))) (Up.up .f32 (fun _ _ => 0))
      = Up.up .f32 (fun i j => dis (d i j)) := by
  rw [Up.rsqrt_up _ (fun i j => lt_of_lt_of_le Up.tiny_pos (le_max_right _ _)), Up.select_up]
  rfl

/-- The propagation from node `s` to node `d`, from the incidence of sources and of targets. -/
def prop (sm dm : Fin V → Fin E → ℝ) (d s : Fin V) : ℝ :=
  (0 - dis (∑ e, sm d e) * dis (∑ e, sm s e)) * ∑ e, dm d e * sm s e

/-- The matrix a branch is folded to. -/
def mat [NeZero V] (S : Fin V → Fin V → ℝ) (A0 A1 : Fin 25 → Fin 64 → ℝ) (Fm : Fin M → Fin 128 → ℝ) (r : Fin N) (h : Fin 128) : ℝ :=
  ∑ j : Fin M, (A0 (Fin.ofNat 25 (r % 25)) (Fin.ofNat 64 (j % 64)) * (if ((Fin.ofNat V (r / 25) : Fin V) : ℕ) = j / 64 then 1 else 0)
    + A1 (Fin.ofNat 25 (r % 25)) (Fin.ofNat 64 (j % 64)) * S (Fin.ofNat V (j / 64)) (Fin.ofNat V (r / 25))) * Fm j h

/-- The row a branch is folded to. -/
def row [NeZero V] (S : Fin V → Fin V → ℝ) (b0 b1 c : Fin 64 → ℝ) (Fm : Fin M → Fin 128 → ℝ) (h : Fin 128) : ℝ :=
  ∑ g : Fin 64, (b0 g + c g) * (∑ j : Fin M, (if (j : ℕ) % 64 = g then 1 else 0) * Fm j h)
    + ∑ g : Fin 64, b1 g * (∑ j : Fin M, ((if (j : ℕ) % 64 = g then 1 else 0) * ∑ s, S (Fin.ofNat V (j / 64)) s) * Fm j h)

end Cert.Fold

end
-- ==== Proof.KernelIdealEcc.lean ====
/-
  THE FIRST BRANCH OF THE KERNEL ON REAL INPUTS: its selectors, the folded convolution, the propagation, and the matrix and the row it is
  folded to (Proof/Fold.lean).
-/
module

public import proofs.«01_k».proof.Proof.KernelIdealOut
public import proofs.«01_k».proof.Proof.KernelIdealDots
public import proofs.«01_k».proof.Proof.Fold

@[expose] public section

noncomputable section

namespace Cert.KernelIdeal.Hand

open Cert.KernelIdeal Cert.KernelIdeal.Gen
open Idealize.ShloMosaic Cert.Up Cert.Fold
open scoped BigOperators

/-- The position of a feature in its channel. -/
theorem pay5_eq : (k0_pay5 : FVec Ideal S25x800 .f32) = up .f32 (fun _ l => (((l : ℕ) % 25 : ℕ) : ℝ)) := by
  unfold k0_pay5
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The channel of a feature, as a selector. -/
theorem pay6_eq : (k0_pay6 : FVec Ideal S32x800 .f32) = up .f32 (fun c l => if (c : ℕ) = (l : ℕ) / 25 then 1 else 0) := by
  unfold k0_pay6
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The position of a row entry in its node, as a selector. -/
theorem pay7_eq : (k0_pay7 : FVec Ideal S400x25 .f32) = up .f32 (fun r t => if (r : ℕ) % 25 = (t : ℕ) then 1 else 0) := by
  unfold k0_pay7
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The feature of a column in its node, as a selector. -/
theorem eccCol_eq : (eccCol : FVec Ideal S64x1024 .f32) = up .f32 (fun g j => if (j : ℕ) % 64 = (g : ℕ) then 1 else 0) := by
  unfold eccCol k0_pay10 k0_pay9 k0_pay8
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The node of a row entry, as a selector. -/
theorem pay11_eq : (k0_pay11 : FVec Ideal S400x16 .f32) = up .f32 (fun r v => if (r : ℕ) / 25 = (v : ℕ) then 1 else 0) := by
  unfold k0_pay11
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The node of a column, as a selector. -/
theorem pay12_eq : (k0_pay12 : FVec Ideal S16x1024 .f32) = up .f32 (fun v j => if (v : ℕ) = (j : ℕ) / 64 then 1 else 0) := by
  unfold k0_pay12
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

theorem pay14_eq : (k0_pay14 : FVec Ideal S25x800 .f32) = up .f32 (fun t _ => ((t : ℕ) : ℝ)) := by
  unfold k0_pay14
  simp only [iota0_S25x800 _]

/-- The convolution composed with a feature weight matrix. -/
theorem eccW0_eq (cw : Fin 32 → Fin 3 → ℝ) (W : Fin 800 → Fin 64 → ℝ) :
    eccW0 (F := Ideal) (up .f32 cw) (up .f32 W) = up .f32 (bandW cw W) := by
  unfold eccW0 k0_pay19 k0_pay18 k0_pay13 k0_pay15 k0_pay16 k0_pay17 k0_pay13 k0_pay2
  simp only [pay5_eq, pay6_eq, pay14_eq, eq_dot_S25x800_S800x64_S25x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _,
    slice_up 0 (by decide : 0 < 3), slice_up 1 (by decide : 1 < 3), slice_up 2 (by decide : 2 < 3)]
  simp (disch := omega) only [floor64, mod25, mod64, Nat.cast_inj, diff_one, diff_zero, diff_neg_one, sum_lesel]
  rfl

/-- The convolution composed with a feature weight matrix. -/
theorem eccW1_eq (cw : Fin 32 → Fin 3 → ℝ) (W : Fin 800 → Fin 64 → ℝ) :
    eccW1 (F := Ideal) (up .f32 cw) (up .f32 W) = up .f32 (bandW cw W) := by
  unfold eccW1 k0_pay20 k0_pay18 k0_pay13 k0_pay15 k0_pay16 k0_pay17 k0_pay13 k0_pay2
  simp only [pay5_eq, pay6_eq, pay14_eq, eq_dot_S25x800_S800x64_S25x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _,
    slice_up 0 (by decide : 0 < 3), slice_up 1 (by decide : 1 < 3), slice_up 2 (by decide : 2 < 3)]
  simp (disch := omega) only [floor64, mod25, mod64, Nat.cast_inj, diff_one, diff_zero, diff_neg_one, sum_lesel]
  rfl

/-- The bias of the convolution composed with a feature weight matrix. -/
theorem pay22_eq (cb : Fin 1 → Fin 32 → ℝ) (W : Fin 800 → Fin 64 → ℝ) :
    k0_pay22 (F := Ideal) (k0_pay3 (up .f32 cb)) (up .f32 W) k0_pay6 = up .f32 (fun _ => biasW (cb 0) W) := by
  unfold k0_pay22 k0_pay21 k0_pay3
  simp only [pay6_eq, eq_dot_S1x32_S32x800_S1x800_1_0_0_1_n_n, eq_dot_S1x800_S800x64_S1x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [sum_lesel]
  refine congrArg _ (funext fun i => funext fun g => ?_)
  rw [Subsingleton.elim i 0]
  rfl

/-- The bias of the convolution composed with a feature weight matrix. -/
theorem pay23_eq (cb : Fin 1 → Fin 32 → ℝ) (W : Fin 800 → Fin 64 → ℝ) :
    k0_pay23 (F := Ideal) (k0_pay3 (up .f32 cb)) (up .f32 W) k0_pay6 = up .f32 (fun _ => biasW (cb 0) W) := by
  unfold k0_pay23 k0_pay21 k0_pay3
  simp only [pay6_eq, eq_dot_S1x32_S32x800_S1x800_1_0_0_1_n_n, eq_dot_S1x800_S800x64_S1x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [sum_lesel]
  refine congrArg _ (funext fun i => funext fun g => ?_)
  rw [Subsingleton.elim i 0]
  rfl

/-- The incidence of the sources. -/
theorem pay24_eq (ei : IVec S2x32 32) : k0_pay24 (F := Ideal) ei = up .f32 (hot (V := 16) ei 0) := by
  unfold k0_pay24
  refine (rowhot_up (m := 16) (n := 32) _ _ _ _).trans (congrArg _ (funext fun v => funext fun e => ?_))
  rw [hot_slice ei 0 (by decide)]
  rfl

/-- The edges from one node to another, counted. -/
theorem pay25_eq (ei : IVec S2x32 32) : k0_pay25 (F := Ideal) ei = up .f32 (fun d s => ∑ e, hot ei 1 d e * hot ei 0 s e) := by
  unfold k0_pay25
  simp only [pay24_eq, eq_dot_S16x32_S16x32_S16x16_1_1_0_0_n_n]
  refine (congrArg (fun z => matmul (DotDims.transposedRhs 16 32 16) none z (up .f32 (hot ei 0)) (constant S16x16 .f32 0x00000000#32))
    (?_ : _ = up .f32 (hot ei 1))).trans (mmT_up none _ _)
  refine (rowhot_up (m := 16) (n := 32) _ _ _ _).trans (congrArg _ (funext fun v => funext fun e => ?_))
  rw [hot_slice ei 1 (by decide)]
  rfl

/-- The degrees, as a row. -/
theorem pay26_eq (ei : IVec S2x32 32) : k0_pay26 (F := Ideal) ei = up .f32 (fun _ s => ∑ e, hot ei 0 s e) := by
  unfold k0_pay26
  simp only [pay24_eq, eq_dot_S1x32_S16x32_S1x16_1_1_0_0_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _, one_mul]

/-- The inverse square roots of the degrees, as a column. -/
theorem pay27_eq (ei : IVec S2x32 32) : k0_pay27 (F := Ideal) ei = up .f32 (fun v _ => dis (∑ e, hot ei 0 v e)) := by
  unfold k0_pay27
  simp only [pay24_eq, eq_dot_S16x32_S32x1_S16x1_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _, mul_one, dis_up]

/-- The propagation. -/
theorem pay29_eq (ei : IVec S2x32 32) :
    k0_pay29 (F := Ideal) (k0_pay25 ei) (k0_pay26 ei) (k0_pay27 ei) k0_pay28 = up .f32 (prop (hot ei 0) (hot ei 1)) := by
  unfold k0_pay29 k0_pay28
  simp only [pay25_eq, pay26_eq, pay27_eq, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _, dis_up]
  rfl

/-- The matrix of the first branch. -/
theorem eccM_eq (Fe : Fin 1024 → Fin 128 → ℝ) (cw : Fin 32 → Fin 3 → ℝ) (W0 W1 : Fin 800 → Fin 64 → ℝ) (ei : IVec S2x32 32) :
    eccM (F := Ideal) (up .f32 Fe) (up .f32 cw) (up .f32 W0) (up .f32 W1) ei
      = up .f32 (mat (V := 16) (N := 400) (prop (hot ei 0) (hot ei 1)) (bandW cw W0) (bandW cw W1) Fe) := by
  unfold eccM k0_pay30
  simp only [pay29_eq, pay7_eq, eccCol_eq, pay11_eq, pay12_eq, eccW0_eq, eccW1_eq, eq_dot_S400x25_S25x64_S400x64_1_0_0_1_n_n, eq_dot_S400x64_S64x1024_S400x1024_1_0_0_1_n_n, eq_dot_S400x16_S16x1024_S400x1024_1_0_0_1_n_n, eq_dot_S400x16_S16x16_S400x16_1_1_0_0_n_n, eq_dot_S400x1024_S1024x128_S400x128_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [sum_sel, sum_sel', sum_lesel]
  rfl

/-- The row of the first branch. -/
theorem eccC_eq (Fe : Fin 1024 → Fin 128 → ℝ) (cb : Fin 1 → Fin 32 → ℝ) (W0 W1 : Fin 800 → Fin 64 → ℝ) (chb : Fin 1 → Fin 64 → ℝ) (ei : IVec S2x32 32) :
    eccC (F := Ideal) (up .f32 Fe) (up .f32 cb) (up .f32 W0) (up .f32 W1) (up .f32 chb) ei
      = up .f32 (fun _ => row (V := 16) (prop (hot ei 0) (hot ei 1)) (biasW (cb 0) W0) (biasW (cb 0) W1) (chb 0) Fe) := by
  unfold eccC k0_pay33 k0_pay31 k0_pay32 k0_pay4
  simp only [pay29_eq, eccCol_eq, pay12_eq, pay22_eq, pay23_eq, eq_dot_S64x1024_S1024x128_S64x128_1_0_0_1_n_n, eq_dot_S1x64_S64x128_S1x128_1_0_0_1_n_n, eq_dot_S1x16_S16x16_S1x16_1_1_0_0_n_n, eq_dot_S1x16_S16x1024_S1x1024_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _, one_mul]
  simp (disch := omega) only [sum_lesel]
  refine congrArg _ (funext fun i => funext fun g => ?_)
  rw [Subsingleton.elim i 0]
  rfl

end Cert.KernelIdeal.Hand

end
-- ==== Proof.KernelIdealErr.lean ====
/-
  THE SECOND BRANCH OF THE KERNEL ON REAL INPUTS: its selectors, the folded convolution, the propagation, and the matrix and the row it is
  folded to (Proof/Fold.lean).
-/
module

public import proofs.«01_k».proof.Proof.KernelIdealOut
public import proofs.«01_k».proof.Proof.KernelIdealDots
public import proofs.«01_k».proof.Proof.Fold

@[expose] public section

noncomputable section

namespace Cert.KernelIdeal.Hand

open Cert.KernelIdeal Cert.KernelIdeal.Gen
open Idealize.ShloMosaic Cert.Up Cert.Fold
open scoped BigOperators

/-- The position of a feature in its channel. -/
theorem pay37_eq : (k0_pay37 : FVec Ideal S25x800 .f32) = up .f32 (fun _ l => (((l : ℕ) % 25 : ℕ) : ℝ)) := by
  unfold k0_pay37
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The channel of a feature, as a selector. -/
theorem pay38_eq : (k0_pay38 : FVec Ideal S32x800 .f32) = up .f32 (fun c l => if (c : ℕ) = (l : ℕ) / 25 then 1 else 0) := by
  unfold k0_pay38
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The position of a row entry in its node, as a selector. -/
theorem pay40_eq : (k0_pay40 k0_pay39 : FVec Ideal S300x25 .f32) = up .f32 (fun r t => if (r : ℕ) % 25 = (t : ℕ) then 1 else 0) := by
  unfold k0_pay40 k0_pay39
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The feature of a column in its node, as a selector. -/
theorem pay41_eq : (k0_pay41 : FVec Ideal S64x768 .f32) = up .f32 (fun g j => if (j : ℕ) % 64 = (g : ℕ) then 1 else 0) := by
  unfold k0_pay41
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The node of a row entry, as a selector. -/
theorem pay42_eq : (k0_pay42 : FVec Ideal S300x12 .f32) = up .f32 (fun r v => if (r : ℕ) / 25 = (v : ℕ) then 1 else 0) := by
  unfold k0_pay42
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The node of a column, as a selector. -/
theorem pay44_eq : (k0_pay44 (F := Ideal) (k0_pay43 (F := Ideal)) : FVec Ideal S12x768 .f32) = up .f32 (fun v j => if (v : ℕ) = (j : ℕ) / 64 then 1 else 0) := by
  unfold k0_pay44 k0_pay43
  simp only [half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [floor25, floor64, mod25, mod64, Nat.cast_inj, diff_one, diff_zero, diff_neg_one]

/-- The convolution composed with a feature weight matrix. -/
theorem pay46_eq (cw : Fin 32 → Fin 3 → ℝ) (W : Fin 800 → Fin 64 → ℝ) :
    k0_pay46 (F := Ideal) (k0_pay34 (up .f32 cw)) (up .f32 W) k0_pay37 k0_pay38 = up .f32 (bandW cw W) := by
  unfold k0_pay46 k0_pay45 k0_pay34
  simp only [pay37_eq, pay38_eq, eq_dot_S25x800_S800x64_S25x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _,
    slice_up 0 (by decide : 0 < 3), slice_up 1 (by decide : 1 < 3), slice_up 2 (by decide : 2 < 3)]
  simp (disch := omega) only [floor64, mod25, mod64, Nat.cast_inj, diff_one, diff_zero, diff_neg_one, sum_lesel]
  rfl

/-- The convolution composed with a feature weight matrix. -/
theorem pay47_eq (cw : Fin 32 → Fin 3 → ℝ) (W : Fin 800 → Fin 64 → ℝ) :
    k0_pay47 (F := Ideal) (k0_pay34 (up .f32 cw)) (up .f32 W) k0_pay37 k0_pay38 = up .f32 (bandW cw W) := by
  unfold k0_pay47 k0_pay45 k0_pay34
  simp only [pay37_eq, pay38_eq, eq_dot_S25x800_S800x64_S25x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _,
    slice_up 0 (by decide : 0 < 3), slice_up 1 (by decide : 1 < 3), slice_up 2 (by decide : 2 < 3)]
  simp (disch := omega) only [floor64, mod25, mod64, Nat.cast_inj, diff_one, diff_zero, diff_neg_one, sum_lesel]
  rfl

/-- The bias of the convolution composed with a feature weight matrix. -/
theorem pay49_eq (cb : Fin 1 → Fin 32 → ℝ) (W : Fin 800 → Fin 64 → ℝ) :
    k0_pay49 (F := Ideal) (k0_pay35 (up .f32 cb)) (up .f32 W) k0_pay38 = up .f32 (fun _ => biasW (cb 0) W) := by
  unfold k0_pay49 k0_pay48 k0_pay35
  simp only [pay38_eq, eq_dot_S1x32_S32x800_S1x800_1_0_0_1_n_n, eq_dot_S1x800_S800x64_S1x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [sum_lesel]
  refine congrArg _ (funext fun i => funext fun g => ?_)
  rw [Subsingleton.elim i 0]
  rfl

/-- The bias of the convolution composed with a feature weight matrix. -/
theorem pay50_eq (cb : Fin 1 → Fin 32 → ℝ) (W : Fin 800 → Fin 64 → ℝ) :
    k0_pay50 (F := Ideal) (k0_pay35 (up .f32 cb)) (up .f32 W) k0_pay38 = up .f32 (fun _ => biasW (cb 0) W) := by
  unfold k0_pay50 k0_pay48 k0_pay35
  simp only [pay38_eq, eq_dot_S1x32_S32x800_S1x800_1_0_0_1_n_n, eq_dot_S1x800_S800x64_S1x64_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [sum_lesel]
  refine congrArg _ (funext fun i => funext fun g => ?_)
  rw [Subsingleton.elim i 0]
  rfl

/-- The incidence of the sources. -/
theorem pay51_eq (ei : IVec S2x24 32) : k0_pay51 (F := Ideal) ei = up .f32 (hot ei 0) := by
  unfold k0_pay51
  refine (rowhot_up (m := 12) (n := 24) _ _ _ _).trans (congrArg _ (funext fun v => funext fun e => ?_))
  rw [hot_slice ei 0 (by decide)]
  rfl

/-- The incidence of the targets. -/
theorem pay52_eq (ei : IVec S2x24 32) : k0_pay52 (F := Ideal) ei = up .f32 (hot ei 1) := by
  unfold k0_pay52
  refine (rowhot_up (m := 12) (n := 24) _ _ _ _).trans (congrArg _ (funext fun v => funext fun e => ?_))
  rw [hot_slice ei 1 (by decide)]
  rfl

/-- The propagation. -/
theorem pay53_eq (ei : IVec S2x24 32) :
    k0_pay53 (F := Ideal) (k0_pay51 ei) (k0_pay52 ei) = up .f32 (prop (hot (V := 12) ei 0) (hot ei 1)) := by
  unfold k0_pay53
  simp only [pay51_eq, pay52_eq, eq_dot_S12x24_S12x24_S12x12_1_1_0_0_n_n, eq_dot_S12x24_S24x1_S12x1_1_0_0_1_n_n, eq_dot_S1x24_S12x24_S1x12_1_1_0_0_n_n,
    half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _, one_mul, mul_one, dis_up]
  rfl

/-- The matrix of the second branch. -/
theorem errM_eq (Fr : Fin 768 → Fin 128 → ℝ) (cw : Fin 32 → Fin 3 → ℝ) (W0 W1 : Fin 800 → Fin 64 → ℝ) (ei : IVec S2x24 32) :
    errM (F := Ideal) (up .f32 Fr) (up .f32 cw) (up .f32 W0) (up .f32 W1) ei
      = up .f32 (mat (V := 12) (N := 300) (prop (hot ei 0) (hot ei 1)) (bandW cw W0) (bandW cw W1) Fr) := by
  unfold errM k0_pay58 k0_pay54 k0_pay55 k0_pay56 k0_pay57
  simp only [pay53_eq, pay40_eq, pay41_eq, pay42_eq, pay44_eq, pay46_eq, pay47_eq, eq_dot_S300x25_S25x64_S300x64_1_0_0_1_n_n, eq_dot_S300x64_S64x768_S300x768_1_0_0_1_n_n, eq_dot_S300x12_S12x768_S300x768_1_0_0_1_n_n, eq_dot_S300x12_S12x12_S300x12_1_1_0_0_n_n, eq_dot_S300x768_S768x128_S300x128_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _]
  simp (disch := omega) only [sum_sel, sum_sel', sum_lesel]
  rfl

/-- The bias row: `fc1_b`, the row of the first branch and the row of the second. -/
theorem biasRow_eq (Fr : Fin 768 → Fin 128 → ℝ) (c : FVec Ideal S1x128 .f32) (cb : Fin 1 → Fin 32 → ℝ) (W0 W1 : Fin 800 → Fin 64 → ℝ)
    (chb : Fin 1 → Fin 64 → ℝ) (ei : IVec S2x24 32) (b : Vec Ideal S1x128 .f32) :
    biasRow (F := Ideal) (up .f32 Fr) c (up .f32 cb) (up .f32 W0) (up .f32 W1) (up .f32 chb) ei b
      = addf (addf b c) (up .f32 (fun _ => row (V := 12) (prop (hot ei 0) (hot ei 1)) (biasW (cb 0) W0) (biasW (cb 0) W1) (chb 0) Fr)) := by
  unfold biasRow k0_pay59 k0_pay36
  simp only [pay53_eq, pay41_eq, pay44_eq, pay49_eq, pay50_eq, eq_dot_S64x768_S768x128_S64x128_1_0_0_1_n_n, eq_dot_S1x64_S64x128_S1x128_1_0_0_1_n_n, eq_dot_S1x12_S12x12_S1x12_1_1_0_0_n_n, eq_dot_S1x12_S12x768_S1x768_1_0_0_1_n_n, half_eq, c25_eq, n25_eq, c64_eq, n64_eq, one_eq, neg_one_eq, zero_eq, tiny_eq, broadcast_up, addf_up, subf_up, mulf_up, maximumf_up, floor_up, truncf_up, shapeCast_up, onehot_up, select_up, broadcastRow_up, broadcastCol_up, slice_up, mm_up, mmT_up, taps_up, iota0_S12x24 _, iota0_S12x768 _, iota1_S12x768 _, iota0_S16x1024 _, iota1_S16x1024 _, iota0_S16x32 _, iota0_S25x800 _, iota1_S25x800 _, iota0_S300x12 _, iota1_S300x12 _, iota0_S300x25 _, iota1_S300x25 _, iota0_S32x800 _, iota1_S32x800 _, iota0_S400x16 _, iota1_S400x16 _, iota0_S400x25 _, iota1_S400x25 _, iota0_S64x1024 _, iota1_S64x1024 _, iota0_S64x768 _, iota1_S64x768 _, one_mul]
  simp (disch := omega) only [sum_lesel]
  refine congrArg₂ addf (congrArg (fun z => addf z c) (shapeCast_self _ _)) (congrArg _ (funext fun i => funext fun g => ?_))
  rw [Subsingleton.elim i 0]
  rfl

end Cert.KernelIdeal.Hand

end
-- ==== Proof.Branch.lean ====
/-
  A FOLDED BRANCH IS THE BRANCH: over the reals, the input against the folded matrix plus the folded row is the convolution, the
  Chebyshev layer and the dense slab computed one after the other.
-/
module

public import proofs.«01_k».proof.Proof.Fold

@[expose] public section

noncomputable section

namespace Cert.Branch

open Cert.Fold
open scoped BigOperators

variable {V E M N : ℕ}

/-- A sum over the positions of a table of rows of `B` is the sum over the rows of the sums over the columns. -/
theorem sum_split {B : ℕ} [NeZero V] [NeZero B] (hN : N = V * B) (f : Fin V → Fin B → ℝ) :
    ∑ k : Fin N, f (Fin.ofNat V (k / B)) (Fin.ofNat B (k % B)) = ∑ v, ∑ t, f v t := by
  subst hN
  rw [← Fintype.sum_prod_type']
  refine Fintype.sum_equiv finProdFinEquiv.symm _ _ fun k => ?_
  have h1 : Fin.ofNat V (k / B) = k.divNat := Fin.ext (Nat.mod_eq_of_lt k.divNat.isLt)
  have h2 : Fin.ofNat B (k % B) = k.modNat := Fin.ext (Nat.mod_eq_of_lt k.modNat.isLt)
  rw [h1, h2]; rfl

/-- The inverse square root of a degree as the reference states it: zero where no edge leaves. -/
def rdis (x : ℝ) : ℝ := if 0 < x then (Real.sqrt x)⁻¹ else 0

/-- On a count the kernel's guard below the square root changes nothing. -/
theorem dis_count (n : ℕ) : dis (n : ℝ) = rdis (n : ℝ) := by
  unfold dis rdis
  split
  · next h =>
    have h1 : (1 : ℝ) ≤ n := by exact_mod_cast Nat.one_le_iff_ne_zero.2 fun e => by simp [e] at h
    rw [max_eq_left (Up.tiny_le_one.trans h1)]
  · rfl

variable (src dst : Fin E → Fin V)

/-- The degree of a node: the number of edges that leave it. -/
def deg (v : Fin V) : ℝ := ∑ e, if src e = v then 1 else 0

/-- The weight of an edge. -/
def wt (e : Fin E) : ℝ := -(rdis (deg src (src e)) * rdis (deg src (dst e)))

theorem dis_deg (v : Fin V) : dis (deg src v) = rdis (deg src v) := by
  have : deg src v = ((Finset.univ.filter fun e => src e = v).card : ℝ) := by
    unfold deg; rw [Finset.sum_boole]
  rw [this, dis_count]

/-- The propagation's weights of the folded branch add up the weights of the edges between two nodes. -/
theorem sum_prop (d : Fin V) (y : Fin V → ℝ) :
    ∑ s, prop (fun v e => if src e = v then 1 else 0) (fun v e => if dst e = v then 1 else 0) d s * y s =
      ∑ e, if dst e = d then y (src e) * wt src dst e else 0 := by
  have h : ∀ s, prop (fun v e => if src e = v then 1 else 0) (fun v e => if dst e = v then 1 else 0) d s * y s =
      ∑ e, if src e = s then (if dst e = d then y s * -(rdis (deg src s) * rdis (deg src d)) else 0) else 0 := fun s => by
    unfold prop
    change (0 - dis (deg src d) * dis (deg src s)) * _ * y s = _
    rw [dis_deg, dis_deg, mul_right_comm, Finset.mul_sum]
    refine Finset.sum_congr rfl fun e _ => ?_
    by_cases h1 : src e = s <;> by_cases h2 : dst e = d <;> simp [h1, h2]
    ring
  rw [Finset.sum_congr rfl fun s _ => h s, Finset.sum_comm]
  refine Finset.sum_congr rfl fun e _ => ?_
  rw [Finset.sum_ite_eq]
  simp only [Finset.mem_univ, if_true]
  by_cases h2 : dst e = d
  · simp [h2, wt]
  · simp [h2]

variable (cw : Fin 32 → Fin 3 → ℝ) (cb : Fin 32 → ℝ) (W0 W1 : Fin 800 → Fin 64 → ℝ) (chb : Fin 64 → ℝ) (x : Fin V → Fin 25 → ℝ)

/-- The padded input: a zero on each side of a node's 25 samples. -/
def pad (v : Fin V) (t : ℕ) : ℝ := if h : 1 ≤ t ∧ t < 26 then x v ⟨t - 1, by omega⟩ else 0

/-- The convolution of a node's samples, the channel and the position in one number. -/
def conv (v : Fin V) (l : Fin 800) : ℝ :=
  cw (Fin.ofNat 32 (l / 25)) 0 * pad x v (l % 25) + cw (Fin.ofNat 32 (l / 25)) 1 * pad x v (l % 25 + 1)
    + cw (Fin.ofNat 32 (l / 25)) 2 * pad x v (l % 25 + 2) + cb (Fin.ofNat 32 (l / 25))

/-- The neighbours' features, weighted and added up. -/
def gath (v : Fin V) (l : Fin 800) : ℝ := ∑ e, if dst e = v then conv cw cb x (src e) l * wt src dst e else 0

/-- The Chebyshev layer at a node. -/
def cheb (v : Fin V) (g : Fin 64) : ℝ :=
  ((∑ l, conv cw cb x v l * W0 l g) + ∑ l, gath src dst cw cb x v l * W1 l g) + chb g

/-- The convolution is the samples against the band, plus the bias. -/
theorem conv_band (v : Fin V) (l : Fin 800) : conv cw cb x v l = (∑ τ, x v τ * band cw τ l) + cb (Fin.ofNat 32 (l / 25)) := by
  have hp : ∀ t : ℕ, pad x v t = ∑ τ : Fin 25, x v τ * (if t = τ.val + 1 then 1 else 0) := fun t => by
    unfold pad
    split
    · next h =>
      rw [Finset.sum_eq_single (⟨t - 1, by omega⟩ : Fin 25)]
      · rw [if_pos (by simp; omega), mul_one]
      · intro τ _ hne
        rw [if_neg fun e => hne (Fin.ext (by simp; omega)), mul_zero]
      · intro h; exact (h (Finset.mem_univ _)).elim
    · next h =>
      refine (Finset.sum_eq_zero fun τ _ => ?_).symm
      have := τ.isLt
      rw [if_neg (by omega), mul_zero]
  unfold conv
  rw [hp, hp, hp, Finset.mul_sum, Finset.mul_sum, Finset.mul_sum, ← Finset.sum_add_distrib, ← Finset.sum_add_distrib]
  congr 1
  refine Finset.sum_congr rfl fun τ _ => ?_
  unfold band
  have e1 : (if l.val % 25 + 1 = τ.val + 1 then (1 : ℝ) else 0) = if l.val % 25 = τ.val then 1 else 0 := if_congr (by omega) rfl rfl
  have e2 : (if l.val % 25 + 2 = τ.val + 1 then (1 : ℝ) else 0) = if l.val % 25 + 1 = τ.val then 1 else 0 := if_congr (by omega) rfl rfl
  rw [e1, e2]
  ring

/-- The convolution against a weight matrix, folded. -/
theorem conv_fold (W : Fin 800 → Fin 64 → ℝ) (v : Fin V) (g : Fin 64) :
    ∑ l, conv cw cb x v l * W l g = (∑ τ, x v τ * bandW cw W τ g) + biasW cb W g := by
  simp only [conv_band, add_mul, Finset.sum_add_distrib, biasW, bandW, Finset.sum_mul, Finset.mul_sum]
  rw [Finset.sum_comm]
  simp only [mul_assoc]

/-- The folded branch: the samples against the folded matrix plus the folded row are the Chebyshev layer's features against the slab. -/
theorem branch [NeZero V] (hN : N = V * 25) (hM : M = V * 64) (Fm : Fin M → Fin 128 → ℝ) (h : Fin 128) :
    (∑ k : Fin N, x (Fin.ofNat V (k / 25)) (Fin.ofNat 25 (k % 25)) *
        mat (V := V) (prop (fun v e => if src e = v then 1 else 0) (fun v e => if dst e = v then 1 else 0)) (bandW cw W0) (bandW cw W1) Fm k h)
      + row (V := V) (prop (fun v e => if src e = v then 1 else 0) (fun v e => if dst e = v then 1 else 0)) (biasW cb W0) (biasW cb W1) chb Fm h
    = ∑ j : Fin M, cheb src dst cw cb W0 W1 chb x (Fin.ofNat V (j / 64)) (Fin.ofNat 64 (j % 64)) * Fm j h := by
  have hS := sum_prop src dst
  set S := prop (fun v e => if src e = v then (1 : ℝ) else 0) (fun v e => if dst e = v then 1 else 0) with hSdef
  have hd : ∀ j : Fin M, ((Fin.ofNat V (j / 64) : Fin V) : ℕ) = j / 64 := fun j =>
    Nat.mod_eq_of_lt (by have := j.isLt; omega)
  have hg : ∀ j : Fin M, ((Fin.ofNat 64 (j % 64) : Fin 64) : ℕ) = j % 64 := fun j =>
    Nat.mod_eq_of_lt (Nat.mod_lt _ (by norm_num))
  -- the matrix
  have hm : (∑ k : Fin N, x (Fin.ofNat V (k / 25)) (Fin.ofNat 25 (k % 25)) * mat (V := V) S (bandW cw W0) (bandW cw W1) Fm k h)
      = ∑ j : Fin M, ((∑ τ, x (Fin.ofNat V (j / 64)) τ * bandW cw W0 τ (Fin.ofNat 64 (j % 64)))
          + ∑ v, S (Fin.ofNat V (j / 64)) v * ∑ τ, x v τ * bandW cw W1 τ (Fin.ofNat 64 (j % 64))) * Fm j h := by
    have e := sum_split (V := V) (B := 25) hN fun v τ => x v τ * ∑ j : Fin M,
      (bandW cw W0 τ (Fin.ofNat 64 (j % 64)) * (if (v : ℕ) = j / 64 then 1 else 0)
        + bandW cw W1 τ (Fin.ofNat 64 (j % 64)) * S (Fin.ofNat V (j / 64)) v) * Fm j h
    refine (Eq.trans ?_ e).trans ?_
    · exact Finset.sum_congr rfl fun k _ => rfl
    · simp only [Finset.mul_sum]
      rw [Finset.sum_congr rfl fun v _ => Finset.sum_comm, Finset.sum_comm]
      refine Finset.sum_congr rfl fun j _ => ?_
      rw [add_mul, Finset.sum_mul, Finset.sum_mul]
      have e0 : ∑ τ, x (Fin.ofNat V (j / 64)) τ * bandW cw W0 τ (Fin.ofNat 64 (j % 64)) * Fm j h
          = ∑ v, ∑ τ, (if v = Fin.ofNat V (j / 64) then x v τ * bandW cw W0 τ (Fin.ofNat 64 (j % 64)) * Fm j h else 0) := by
        rw [Finset.sum_eq_single (Fin.ofNat V (j / 64))]
        · simp
        · intro v _ hv; exact Finset.sum_eq_zero fun τ _ => if_neg hv
        · intro hh; exact (hh (Finset.mem_univ _)).elim
      rw [e0, ← Finset.sum_add_distrib]
      refine Finset.sum_congr rfl fun v _ => ?_
      rw [Finset.sum_mul, ← Finset.sum_add_distrib]
      refine Finset.sum_congr rfl fun τ _ => ?_
      have hc : (if (v : ℕ) = j / 64 then (1 : ℝ) else 0) = if v = Fin.ofNat V (j / 64) then 1 else 0 :=
        if_congr (by rw [Fin.ext_iff, hd]) rfl rfl
      rw [hc]
      split <;> ring
  -- the row
  have hr : row (V := V) S (biasW cb W0) (biasW cb W1) chb Fm h
      = ∑ j : Fin M, ((biasW cb W0 (Fin.ofNat 64 (j % 64)) + chb (Fin.ofNat 64 (j % 64)))
          + ∑ v, S (Fin.ofNat V (j / 64)) v * biasW cb W1 (Fin.ofNat 64 (j % 64))) * Fm j h := by
    have e1 : ∀ (b : Fin 64 → ℝ) (y : Fin M → ℝ), ∑ g, b g * ∑ j : Fin M, (if (j : ℕ) % 64 = g then 1 else 0) * y j
        = ∑ j : Fin M, b (Fin.ofNat 64 (j % 64)) * y j := fun b y => by
      simp only [Finset.mul_sum]
      rw [Finset.sum_comm]
      refine Finset.sum_congr rfl fun j _ => ?_
      rw [Finset.sum_eq_single (Fin.ofNat 64 (j % 64))]
      · rw [if_pos (hg j).symm, one_mul]
      · intro g _ hne
        rw [if_neg fun e => hne (Fin.ext ((hg j).trans e).symm), zero_mul, mul_zero]
      · intro hh; exact (hh (Finset.mem_univ _)).elim
    unfold row
    simp only [mul_assoc]
    rw [e1 (fun g => biasW cb W0 g + chb g), e1 (biasW cb W1), ← Finset.sum_add_distrib]
    refine Finset.sum_congr rfl fun j _ => ?_
    rw [← Finset.sum_mul]
    ring
  rw [hm, hr, ← Finset.sum_add_distrib]
  refine Finset.sum_congr rfl fun j _ => ?_
  rw [← add_mul]
  congr 1
  unfold cheb
  have hx : ∀ g, ∑ l, gath src dst cw cb x (Fin.ofNat V (j / 64)) l * W1 l g
      = ∑ v, S (Fin.ofNat V (j / 64)) v * ∑ l, conv cw cb x v l * W1 l g := fun g => by
    simp only [gath, Finset.mul_sum]
    rw [Finset.sum_comm]
    refine Finset.sum_congr rfl fun l _ => ?_
    rw [← hS (Fin.ofNat V (j / 64)) fun v => conv cw cb x v l, Finset.sum_mul]
    exact Finset.sum_congr rfl fun v _ => mul_assoc _ _ _
  rw [hx, conv_fold, Finset.sum_congr rfl fun v _ => congrArg (S (Fin.ofNat V (j / 64)) v * ·) (conv_fold cw cb x W1 v _)]
  simp only [mul_add, Finset.sum_add_distrib]
  ring

end Cert.Branch
-- ==== Proof.Head.lean ====
/-
  WHAT BOTH PROGRAMS COMPUTE OF ONE SAMPLE once its two graph branches are known: the hidden layer of the plain branch, the latent
  vector, the score. The features of the graph branches are real numbers; every other input is left as it is, finite or not.
-/
module

public import proofs.«01_k».proof.Proof.Branch

@[expose] public section

noncomputable section

namespace Cert.Head

open Idealize.ShloMosaic Cert.Fold Cert.Branch
open scoped BigOperators

/-- The hidden layer of the branch without a graph: a dense layer and a rectifier. -/
def hid (x : Fin 128 → EReal) (W : Fin 128 → Fin 64 → EReal) (b : Fin 64 → EReal) (j : Fin 64) : EReal := max (∑ i, x i * W i j + b j) 0

/-- The latent vector before its rectifier: the three branches' features, each against its rows of the dense layer, and the bias. -/
def latent (E : Fin 1024 → ℝ) (R : Fin 768 → ℝ) (fE : Fin 1024 → Fin 128 → ℝ) (fR : Fin 768 → Fin 128 → ℝ) (H : Fin 64 → EReal)
    (fH : Fin 64 → Fin 128 → EReal) (b : Fin 128 → EReal) (h : Fin 128) : EReal :=
  ((((∑ j, E j * fE j h : ℝ) : EReal) + ((∑ j, R j * fR j h : ℝ) : EReal)) + ∑ j, H j * fH j h) + b h

/-- The score: the rectified latent vector against the last layer's column, its bias, the logistic function. -/
def score (z : Fin 128 → EReal) (W : Fin 128 → EReal) (b : EReal) : EReal := Ideal.logistic (∑ h, max (z h) 0 * W h + b)

/-- The features of a graph branch as a row: node after node, 64 channels each. -/
def feats {V E M : ℕ} [NeZero V] (src dst : Fin E → Fin V) (cw : Fin 32 → Fin 3 → ℝ) (cb : Fin 32 → ℝ) (W0 W1 : Fin 800 → Fin 64 → ℝ)
    (chb : Fin 64 → ℝ) (x : Fin V → Fin 25 → ℝ) (j : Fin M) : ℝ :=
  cheb src dst cw cb W0 W1 chb x (Fin.ofNat V (j / 64)) (Fin.ofNat 64 (j % 64))

/-- The same summands in the kernel's order: matrices first, the hidden layer, then the bias with both rows. -/
theorem reorder (p q u v : ℝ) (H b : EReal) :
    ((p : EReal) + (q : EReal)) + H + ((b + (u : EReal)) + (v : EReal)) = (((p + u : ℝ) : EReal) + ((q + v : ℝ) : EReal)) + H + b := by
  rw [EReal.coe_add, EReal.coe_add]
  ac_rfl

end Cert.Head
-- ==== Proof.KernelIdealHead.lean ====
/-
  THE KERNEL'S RESULT AT A SAMPLE when the graph branches' inputs are real numbers and every edge names nodes of its graph: the score
  of Proof/Head.lean, of the Chebyshev layers' features.
-/
module

public import proofs.«01_k».proof.Proof.KernelIdealEcc
public import proofs.«01_k».proof.Proof.KernelIdealErr
public import proofs.«01_k».proof.Proof.Head
public import Idealize.ShloMosaic.Lib.Pointwise
public import Idealize.ShloMosaic.Lib.Pointwise.IndexBridge

@[expose] public section

noncomputable section

namespace Cert.KernelIdeal.Hand

open Cert.KernelIdeal Cert.KernelIdeal.Gen
open Idealize.ShloMosaic Cert.Up Cert.Fold
open scoped BigOperators

/-- The kernel's last steps at a sample: the score of two matrix products, the hidden layer's product and the bias row. -/
theorem head_at (r : FVec Ideal S1x128 .f32) (M : FVec Ideal S400x128 .f32) (M' : FVec Ideal S300x128 .f32) (x0 : Vec Ideal S1024x400 .f32)
    (x1 : Vec Ideal S1024x300 .f32) (x2 : Vec Ideal S1024x128 .f32) (ehrW : Vec Ideal S128x64 .f32) (ehrB : Vec Ideal S1x64 .f32)
    (We : Vec Ideal S64x128 .f32) (W2 : Vec Ideal S128x1 .f32) (b2 : Vec Ideal S1x1 .f32) (b : Fin 1024) :
    k0_pay1 r (k0_pay60 M M' x0 x1) (k0_pay61 x2 ehrW ehrB) (k0_pay62 We) (constant S1024x128 .f32 0x00000000#32) W2 b2 (ix2 b 0)
      = Head.score (fun h => ((∑ k, x0 (ix2 b k) * M (ix2 k h) + ∑ k, x1 (ix2 b k) * M' (ix2 k h))
          + ∑ j, Head.hid (fun i => x2 (ix2 b i)) (fun i j => ehrW (ix2 i j)) (fun j => ehrB (ix2 0 j)) j * We (ix2 j h)) + r (ix2 0 h))
          (fun h => W2 (ix2 h 0)) (b2 (ix2 0 0)) := by
  unfold k0_pay1 k0_pay60 k0_pay61 k0_pay62 Head.score Head.hid
  pointwise

/-- The rows of the dense layer that meet the first branch's features. -/
theorem fcEcc_at (w : Vec Ideal S1856x128 .f32) (i : Fin 1024) (j : Fin 128) : fcEcc w (ix2 i j) = w (ix2 ⟨i, by omega⟩ j) := by
  unfold fcEcc VecWindow.window
  congr 1
  funext a
  refine Fin.ext ?_
  fin_cases a <;> simp [Rect.emb, Rect.unit, ix2]

/-- The rows of the dense layer that meet the second branch's features. -/
theorem fcErr_at (w : Vec Ideal S1856x128 .f32) (i : Fin 768) (j : Fin 128) : fcErr w (ix2 i j) = w (ix2 ⟨1024 + i, by omega⟩ j) := by
  unfold fcErr VecWindow.window
  congr 1
  funext a
  refine Fin.ext ?_
  fin_cases a <;> simp [Rect.emb, Rect.unit, ix2]

/-- The rows of the dense layer that meet the hidden layer. -/
theorem fcEhr_at (w : Vec Ideal S1856x128 .f32) (i : Fin 64) (j : Fin 128) : fcEhr w (ix2 i j) = w (ix2 ⟨1792 + i, by omega⟩ j) := by
  unfold fcEhr VecWindow.window
  congr 1
  funext a
  refine Fin.ext ?_
  fin_cases a <;> simp [Rect.emb, Rect.unit, ix2]

/-- An edge list of small numbers selects the nodes it names. -/
theorem hot_eq {V E : ℕ} (hV : V ≤ 1024) (ei : IVec ⟨2, ![2, E]⟩ 32) (r : Fin 2) (n : Fin E → Fin V)
    (h : ∀ e, ei (ix2 r e) = BitVec.ofNat 32 (n e)) : hot (V := V) ei r = fun v e => if n e = v then 1 else 0 := by
  funext v e
  unfold hot
  rw [← ix2_eq_valueIdx, h e]
  refine if_congr ?_ rfl rfl
  have h1 := (n e).isLt
  have h2 := v.isLt
  refine ⟨fun q => Fin.ext ?_, fun q => by rw [q]⟩
  have := congrArg BitVec.toNat q
  rw [BitVec.toNat_ofNat, BitVec.toNat_ofNat, Nat.mod_eq_of_lt (by omega), Nat.mod_eq_of_lt (by omega)] at this
  exact this.symm

/-- The kernel's result at sample `b`. -/
theorem fused_at (x0 : Vec Ideal S1024x400 .f32) (x1 : Vec Ideal S1024x300 .f32) (x2 : Vec Ideal S1024x128 .f32)
    (ehrW : Vec Ideal S128x64 .f32) (ehrB : Vec Ideal S1x64 .f32) (fc2W : Vec Ideal S128x1 .f32) (fc2B : Vec Ideal S1x1 .f32)
    (fc1W : Vec Ideal S1856x128 .f32) (fc1B : Vec Ideal S1x128 .f32) (eiE : Vec Ideal S2x32 .i32) (eiR : Vec Ideal S2x24 .i32)
    (xE : Fin 1024 → Fin 16 → Fin 25 → ℝ) (cwE : Fin 32 → Fin 3 → ℝ) (cbE : Fin 32 → ℝ) (w0E w1E : Fin 800 → Fin 64 → ℝ) (chbE : Fin 64 → ℝ)
    (xR : Fin 1024 → Fin 12 → Fin 25 → ℝ) (cwR : Fin 32 → Fin 3 → ℝ) (cbR : Fin 32 → ℝ) (w0R w1R : Fin 800 → Fin 64 → ℝ) (chbR : Fin 64 → ℝ)
    (srcE dstE : Fin 32 → Fin 16) (srcR dstR : Fin 24 → Fin 12) (fE : Fin 1024 → Fin 128 → ℝ) (fR : Fin 768 → Fin 128 → ℝ)
    (hx0 : ∀ b k, x0 (ix2 b k) = ((xE b (Fin.ofNat 16 (k / 25)) (Fin.ofNat 25 (k % 25)) : ℝ) : EReal))
    (hx1 : ∀ b k, x1 (ix2 b k) = ((xR b (Fin.ofNat 12 (k / 25)) (Fin.ofNat 25 (k % 25)) : ℝ) : EReal))
    (hsE : ∀ e, eiE (ix2 0 e) = BitVec.ofNat 32 (srcE e)) (hdE : ∀ e, eiE (ix2 1 e) = BitVec.ofNat 32 (dstE e))
    (hsR : ∀ e, eiR (ix2 0 e) = BitVec.ofNat 32 (srcR e)) (hdR : ∀ e, eiR (ix2 1 e) = BitVec.ofNat 32 (dstR e))
    (hfE : ∀ i j, fc1W (ix2 ⟨i.val, by omega⟩ j) = ((fE i j : ℝ) : EReal)) (hfR : ∀ i j, fc1W (ix2 ⟨1024 + i.val, by omega⟩ j) = ((fR i j : ℝ) : EReal))
    (b : Fin 1024) :
    fused x0 x1 x2 ehrW ehrB fc2W fc2B fc1W fc1B (up .f32 cwE) (up .f32 fun _ => cbE) (up .f32 w0E) (up .f32 w1E) (up .f32 fun _ => chbE) eiE
        (up .f32 cwR) (up .f32 fun _ => cbR) (up .f32 w0R) (up .f32 w1R) (up .f32 fun _ => chbR) eiR (ix2 b 0)
      = Head.score (Head.latent (Head.feats srcE dstE cwE cbE w0E w1E chbE (xE b)) (Head.feats srcR dstR cwR cbR w0R w1R chbR (xR b)) fE fR
          (Head.hid (fun i => x2 (ix2 b i)) (fun i j => ehrW (ix2 i j)) (fun j => ehrB (ix2 0 j))) (fun j h => fc1W (ix2 ⟨1792 + j, by omega⟩ h))
          (fun h => fc1B (ix2 0 h))) (fun h => fc2W (ix2 h 0)) (fc2B (ix2 0 0)) := by
  have hE : fcEcc fc1W = up .f32 fE := eq_up _ _ fun i j => by rw [← ix2_eq_valueIdx, fcEcc_at, hfE]
  have hR : fcErr fc1W = up .f32 fR := eq_up _ _ fun i j => by rw [← ix2_eq_valueIdx, fcErr_at, hfR]
  unfold fused
  rw [hE, hR, eccM_eq, errM_eq, eccC_eq, biasRow_eq, head_at, hot_eq (by norm_num) eiE 0 srcE hsE, hot_eq (by norm_num) eiE 1 dstE hdE,
    hot_eq (by norm_num) eiR 0 srcR hsR, hot_eq (by norm_num) eiR 1 dstR hdR]
  congr 1
  funext h
  have bE := Branch.branch srcE dstE cwE cbE w0E w1E chbE (xE b) (N := 400) (by norm_num) (by norm_num) fE h
  have bR := Branch.branch srcR dstR cwR cbR w0R w1R chbR (xR b) (N := 300) (by norm_num) (by norm_num) fR h
  have s0 : ∀ A : Fin 400 → Fin 128 → ℝ, ∑ k, x0 (ix2 b k) * up .f32 A (ix2 k h)
      = ((∑ k : Fin 400, xE b (Fin.ofNat 16 (k / 25)) (Fin.ofNat 25 (k % 25)) * A k h : ℝ) : EReal) := fun A => by
    rw [← coe_sum]
    exact Finset.sum_congr rfl fun k _ => by rw [hx0, EReal.coe_mul, ix2_eq_valueIdx, up_at]
  have s1 : ∀ A : Fin 300 → Fin 128 → ℝ, ∑ k, x1 (ix2 b k) * up .f32 A (ix2 k h)
      = ((∑ k : Fin 300, xR b (Fin.ofNat 12 (k / 25)) (Fin.ofNat 25 (k % 25)) * A k h : ℝ) : EReal) := fun A => by
    rw [← coe_sum]
    exact Finset.sum_congr rfl fun k _ => by rw [hx1, EReal.coe_mul, ix2_eq_valueIdx, up_at]
  unfold Head.latent Head.feats
  rw [← bE, ← bR, s0, s1]
  simp only [fcEhr_at]
  exact Head.reorder _ _ _ _ _ _

end Cert.KernelIdeal.Hand
-- ==== Proof.Lift.lean ====
/-
  FROM THE PRECONDITION TO REAL NUMBERS: where `finite_in_range` holds, the graph branches' inputs are real numbers and every word of an
  edge list names a node of its graph.
-/
module

public import proofs.«01_k».proof.Proof.Gen.Pre_finite_in_range
public import proofs.«01_k».proof.Proof.Up
public import Idealize.ShloMosaic.Lib.Pointwise

@[expose] public section

noncomputable section

namespace Cert.Lift

open Cert.Pre_finite_in_range
open Idealize.ShloMosaic

/-- An array whose entries are smaller than infinity in absolute value holds real numbers. -/
theorem real_of {s : Shape} (hb : S_.BroadcastsInDim s (![] : Fin 0 → Fin s.rank)) (a : FVec Ideal s .f32)
    (h : cmpf .olt (Host.absf a) (broadcastInDim s ![] hb (constant S_ .f32 0x7F800000#32)) = fun _ => 1#1) (i : s.Idx) :
    a i = ((a i).toReal : EReal) := by
  have e : Ideal.cmp .olt (max (a i) (-(a i))) (Ideal.ofBits .f32 0x7F800000#32) = 1#1 := congrFun h i
  have top : Ideal.ofBits .f32 0x7F800000#32 = ⊤ := by simp [Ideal.ofBits, Ideal.ieee]
  rw [top] at e
  have lt : max (a i) (-(a i)) < ⊤ := by
    by_contra no
    simp [Ideal.cmp, no] at e
  rw [max_lt_iff] at lt
  refine (EReal.coe_toReal lt.1.ne fun bot => ?_).symm
  rw [bot] at lt
  exact absurd lt.2 (by simp)

/-- A word that is at least zero and less than `n`, as signed numbers, is the word of a number below `n`. -/
theorem word_of {s : Shape} {n : ℕ} [NeZero n] (hn : n < 2 ^ 31) (hb : S_.BroadcastsInDim s (![] : Fin 0 → Fin s.rank)) (a : IVec s 32)
    (h : andi (cmpi .sge a (broadcastInDim s ![] hb (constantI S_ 32 0#32))) (cmpi .slt a (broadcastInDim s ![] hb (constantI S_ 32 (BitVec.ofNat 32 n))))
      = fun _ => 1#1) (i : s.Idx) : a i = BitVec.ofNat 32 (Fin.ofNat n (a i).toNat) := by
  have e : BitVec.ofBool ((0#32).sle (a i)) &&& BitVec.ofBool ((a i).slt (BitVec.ofNat 32 n)) = 1#1 := congrFun h i
  generalize a i = w at e ⊢
  have both : (0#32).sle w = true ∧ w.slt (BitVec.ofNat 32 n) = true := by
    revert e
    cases (0#32).sle w <;> cases w.slt (BitVec.ofNat 32 n) <;> decide
  rw [BitVec.sle_iff_toInt_le, BitVec.slt_iff_toInt_lt, Up.toInt_small n hn] at both
  have pos : (0 : ℤ) ≤ w.toInt := both.1
  have eq : w.toInt = (w.toNat : ℤ) := by
    have := BitVec.toInt_eq_toNat_cond w
    have := w.isLt
    split at * <;> omega
  have lt : w.toNat < n := by have := both.2; omega
  refine BitVec.eq_of_toNat_eq ?_
  rw [Fin.val_ofNat, Nat.mod_eq_of_lt lt, BitVec.toNat_ofNat, Nat.mod_eq_of_lt (by omega)]

/-- The graph branches' inputs as real numbers, and their edges. -/
structure Data where
  xE : Fin 1024 → Fin 16 → Fin 25 → ℝ
  cwE : Fin 32 → Fin 3 → ℝ
  cbE : Fin 32 → ℝ
  w0E : Fin 800 → Fin 64 → ℝ
  w1E : Fin 800 → Fin 64 → ℝ
  chbE : Fin 64 → ℝ
  srcE : Fin 32 → Fin 16
  dstE : Fin 32 → Fin 16
  xR : Fin 1024 → Fin 12 → Fin 25 → ℝ
  cwR : Fin 32 → Fin 3 → ℝ
  cbR : Fin 32 → ℝ
  w0R : Fin 800 → Fin 64 → ℝ
  w1R : Fin 800 → Fin 64 → ℝ
  chbR : Fin 64 → ℝ
  srcR : Fin 24 → Fin 12
  dstR : Fin 24 → Fin 12
  f : Fin 1792 → Fin 128 → ℝ

/-- The arguments hold these numbers: the samples, the convolutions' and the Chebyshev layers' weights, the edges, and the dense layer's
    rows that meet the graph branches' features. -/
structure Data.Of (D : Data) (a0 : FVec Ideal S1024x16x25 .f32) (a1 : FVec Ideal S1024x12x25 .f32) (a3 : IVec S2x32 32) (a4 : IVec S2x24 32) (a5 : FVec Ideal S32x1x3 .f32) (a6 : FVec Ideal S32 .f32) (a7 : FVec Ideal S32x1x3 .f32) (a8 : FVec Ideal S32 .f32) (a9 : FVec Ideal S800x64 .f32) (a10 : FVec Ideal S800x64 .f32) (a11 : FVec Ideal S64 .f32) (a12 : FVec Ideal S800x64 .f32) (a13 : FVec Ideal S800x64 .f32) (a14 : FVec Ideal S64 .f32) (a17 : FVec Ideal S1856x128 .f32) : Prop where
  xE : ∀ b v t, a0 (ix3 b v t) = ((D.xE b v t : ℝ) : EReal)
  cwE : ∀ c k, a5 (ix3 c 0 k) = ((D.cwE c k : ℝ) : EReal)
  cbE : ∀ c, a6 (ix1 c) = ((D.cbE c : ℝ) : EReal)
  w0E : ∀ l g, a9 (ix2 l g) = ((D.w0E l g : ℝ) : EReal)
  w1E : ∀ l g, a10 (ix2 l g) = ((D.w1E l g : ℝ) : EReal)
  chbE : ∀ g, a11 (ix1 g) = ((D.chbE g : ℝ) : EReal)
  srcE : ∀ e, a3 (ix2 0 e) = BitVec.ofNat 32 (D.srcE e)
  dstE : ∀ e, a3 (ix2 1 e) = BitVec.ofNat 32 (D.dstE e)
  xR : ∀ b v t, a1 (ix3 b v t) = ((D.xR b v t : ℝ) : EReal)
  cwR : ∀ c k, a7 (ix3 c 0 k) = ((D.cwR c k : ℝ) : EReal)
  cbR : ∀ c, a8 (ix1 c) = ((D.cbR c : ℝ) : EReal)
  w0R : ∀ l g, a12 (ix2 l g) = ((D.w0R l g : ℝ) : EReal)
  w1R : ∀ l g, a13 (ix2 l g) = ((D.w1R l g : ℝ) : EReal)
  chbR : ∀ g, a14 (ix1 g) = ((D.chbR g : ℝ) : EReal)
  srcR : ∀ e, a4 (ix2 0 e) = BitVec.ofNat 32 (D.srcR e)
  dstR : ∀ e, a4 (ix2 1 e) = BitVec.ofNat 32 (D.dstR e)
  f : ∀ (k : Fin 1792) h, a17 (ix2 ⟨k, by omega⟩ h) = ((D.f k h : ℝ) : EReal)

/-- Where the precondition holds there are such numbers. -/
theorem exists_data [Facts] (a0 : FVec Ideal S1024x16x25 .f32) (a1 : FVec Ideal S1024x12x25 .f32) (a2 : FVec Ideal S1024x128 .f32) (a3 : IVec S2x32 32) (a4 : IVec S2x24 32) (a5 : FVec Ideal S32x1x3 .f32) (a6 : FVec Ideal S32 .f32) (a7 : FVec Ideal S32x1x3 .f32) (a8 : FVec Ideal S32 .f32) (a9 : FVec Ideal S800x64 .f32) (a10 : FVec Ideal S800x64 .f32) (a11 : FVec Ideal S64 .f32) (a12 : FVec Ideal S800x64 .f32) (a13 : FVec Ideal S800x64 .f32) (a14 : FVec Ideal S64 .f32) (a15 : FVec Ideal S128x64 .f32) (a16 : FVec Ideal S64 .f32) (a17 : FVec Ideal S1856x128 .f32) (a18 : FVec Ideal S128 .f32) (a19 : FVec Ideal S128x1 .f32) (a20 : FVec Ideal S1 .f32)
    (r) (hr : r = fn (F := Ideal) a0 a1 a2 a3 a4 a5 a6 a7 a8 a9 a10 a11 a12 a13 a14 a15 a16 a17 a18 a19 a20)
    (h : r.1 = (fun _ => 1#1) ∧ r.2.1 = (fun _ => 1#1) ∧ r.2.2.1 = (fun _ => 1#1) ∧ r.2.2.2.1 = (fun _ => 1#1) ∧ r.2.2.2.2.1 = (fun _ => 1#1) ∧ r.2.2.2.2.2.1 = (fun _ => 1#1) ∧ r.2.2.2.2.2.2.1 = (fun _ => 1#1) ∧ r.2.2.2.2.2.2.2.1 = (fun _ => 1#1) ∧ r.2.2.2.2.2.2.2.2.1 = (fun _ => 1#1) ∧ r.2.2.2.2.2.2.2.2.2.1 = (fun _ => 1#1) ∧ r.2.2.2.2.2.2.2.2.2.2.1 = (fun _ => 1#1) ∧ r.2.2.2.2.2.2.2.2.2.2.2.1 = (fun _ => 1#1) ∧ r.2.2.2.2.2.2.2.2.2.2.2.2.1 = (fun _ => 1#1) ∧ r.2.2.2.2.2.2.2.2.2.2.2.2.2.1 = (fun _ => 1#1) ∧ r.2.2.2.2.2.2.2.2.2.2.2.2.2.2 = (fun _ => 1#1)) :
    ∃ D : Data, D.Of a0 a1 a3 a4 a5 a6 a7 a8 a9 a10 a11 a12 a13 a14 a17 := by
  subst hr
  obtain ⟨h0, h1, h5, h6, h7, h8, h9, h10, h11, h12, h13, h14, h17, h3, h4⟩ := h
  refine ⟨⟨fun b v t => (a0 (ix3 b v t)).toReal, fun c k => (a5 (ix3 c 0 k)).toReal, fun c => (a6 (ix1 c)).toReal,
    fun l g => (a9 (ix2 l g)).toReal, fun l g => (a10 (ix2 l g)).toReal, fun g => (a11 (ix1 g)).toReal,
    fun e => Fin.ofNat 16 (a3 (ix2 0 e)).toNat, fun e => Fin.ofNat 16 (a3 (ix2 1 e)).toNat,
    fun b v t => (a1 (ix3 b v t)).toReal, fun c k => (a7 (ix3 c 0 k)).toReal, fun c => (a8 (ix1 c)).toReal,
    fun l g => (a12 (ix2 l g)).toReal, fun l g => (a13 (ix2 l g)).toReal, fun g => (a14 (ix1 g)).toReal,
    fun e => Fin.ofNat 12 (a4 (ix2 0 e)).toNat, fun e => Fin.ofNat 12 (a4 (ix2 1 e)).toNat,
    fun k h => (a17 (ix2 ⟨k, by omega⟩ h)).toReal⟩, ⟨fun b v t => real_of _ a0 h0 _, fun c k => real_of _ a5 h5 _, fun c => real_of _ a6 h6 _,
    fun l g => real_of _ a9 h9 _, fun l g => real_of _ a10 h10 _, fun g => real_of _ a11 h11 _,
    fun e => word_of (by norm_num) _ a3 h3 _, fun e => word_of (by norm_num) _ a3 h3 _,
    fun b v t => real_of _ a1 h1 _, fun c k => real_of _ a7 h7 _, fun c => real_of _ a8 h8 _,
    fun l g => real_of _ a12 h12 _, fun l g => real_of _ a13 h13 _, fun g => real_of _ a14 h14 _,
    fun e => word_of (by norm_num) _ a4 h4 _, fun e => word_of (by norm_num) _ a4 h4 _, fun k h => ?_⟩⟩
  have e := real_of _ _ h17 (ix2 k h)
  have q : extractStridedSlice S1792x128 ![0, 0] a17 Facts.slices_S1856x128_S1792x128_0_0 (ix2 k h) = a17 (ix2 ⟨k, by omega⟩ h) := by pointwise
  simp only [q] at e
  exact e

end Cert.Lift
-- ==== Proof.Result.lean ====
/-
  THE RESULT AS A FUNCTION OF THE ARGUMENTS where the precondition holds: both programs' value, sample by sample.
-/
module

public import proofs.«01_k».proof.Proof.Lift
public import proofs.«01_k».proof.Proof.Head

@[expose] public section

noncomputable section

namespace Cert.Lift

open Cert.Pre_finite_in_range
open Idealize.ShloMosaic

/-- The score of sample `b`: of the graph branches' real features, and of the arguments the precondition leaves free. -/
def Data.result (D : Data) (a2 : FVec Ideal S1024x128 .f32) (a15 : FVec Ideal S128x64 .f32) (a16 : FVec Ideal S64 .f32) (a17 : FVec Ideal S1856x128 .f32)
    (a18 : FVec Ideal S128 .f32) (a19 : FVec Ideal S128x1 .f32) (a20 : FVec Ideal S1 .f32) (b : Fin 1024) : EReal :=
  Head.score (Head.latent (Head.feats D.srcE D.dstE D.cwE D.cbE D.w0E D.w1E D.chbE (D.xE b)) (Head.feats D.srcR D.dstR D.cwR D.cbR D.w0R D.w1R D.chbR (D.xR b))
      (fun i h => D.f ⟨i, by omega⟩ h) (fun i h => D.f ⟨1024 + i, by omega⟩ h)
      (Head.hid (fun i => a2 (ix2 b i)) (fun i j => a15 (ix2 i j)) (fun j => a16 (ix1 j))) (fun j h => a17 (ix2 ⟨1792 + j, by omega⟩ h)) (fun h => a18 (ix1 h)))
    (fun h => a19 (ix2 h 0)) (a20 (ix1 0))

/-- The scores of all samples, as the one column both programs return. -/
def Data.column (D : Data) (a2 : FVec Ideal S1024x128 .f32) (a15 : FVec Ideal S128x64 .f32) (a16 : FVec Ideal S64 .f32) (a17 : FVec Ideal S1856x128 .f32)
    (a18 : FVec Ideal S128 .f32) (a19 : FVec Ideal S128x1 .f32) (a20 : FVec Ideal S1 .f32) : FVec Ideal ⟨2, ![1024, 1]⟩ .f32 :=
  fun i => D.result a2 a15 a16 a17 a18 a19 a20 (i 0)

/-- A column is known by its entries. -/
theorem column_ext (x : FVec Ideal ⟨2, ![1024, 1]⟩ .f32) (f : Fin 1024 → EReal) (h : ∀ b, x (ix2 b 0) = f b) : x = fun i => f (i 0) := by
  funext i
  refine Eq.trans (congrArg x ?_) (h (i 0))
  funext a
  fin_cases a
  · rfl
  · exact Subsingleton.elim (α := Fin 1) _ _

end Cert.Lift
-- ==== Proof.KernelIdealValue.lean ====
/-
  THE KERNEL'S RESULT: what its launch leaves in the result array, as the column of Proof/Result.lean.
-/
module

public import proofs.«01_k».proof.Proof.KernelIdealReads
public import proofs.«01_k».proof.Proof.KernelIdealHead
public import proofs.«01_k».proof.Proof.Result

@[expose] public section

noncomputable section

namespace Cert.KernelIdeal.Hand

open Cert.KernelIdeal Cert.KernelIdeal.Gen
open Idealize.ShloMosaic Idealize.ShloMosaic.TcCoe Cert.Up

variable (m : (ℓ : Loc nD τ sig) → Buf (Elt Ideal) ℓ) (c : Dev nD)

/-- What the one grid point leaves in the output's block. -/
theorem outAt_eq (D : Lift.Data) (h : D.Of (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17))) :
    outAt m c t0_0 = D.column (m ((c : Thread nD τ).loc main_arg2)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine Lift.column_ext _ _ fun b => ?_
  have s6 : iblk m c 6 t0_0 = up .f32 D.cwE := eq_up _ _ fun i j => by rw [← ix2_eq_valueIdx, blk6_at]; exact h.cwE i j
  have s7 : iblk m c 7 t0_0 = up .f32 (fun _ : Fin 1 => D.cbE) := eq_up _ _ fun i j => by rw [← ix2_eq_valueIdx, Subsingleton.elim i 0, blk7_at]; exact h.cbE j
  have s8 : iblk m c 8 t0_0 = up .f32 D.w0E := eq_up _ _ fun i j => by rw [← ix2_eq_valueIdx, blk8_at]; exact h.w0E i j
  have s9 : iblk m c 9 t0_0 = up .f32 D.w1E := eq_up _ _ fun i j => by rw [← ix2_eq_valueIdx, blk9_at]; exact h.w1E i j
  have s10 : iblk m c 10 t0_0 = up .f32 (fun _ : Fin 1 => D.chbE) := eq_up _ _ fun i j => by rw [← ix2_eq_valueIdx, Subsingleton.elim i 0, blk10_at]; exact h.chbE j
  have s12 : iblk m c 12 t0_0 = up .f32 D.cwR := eq_up _ _ fun i j => by rw [← ix2_eq_valueIdx, blk12_at]; exact h.cwR i j
  have s13 : iblk m c 13 t0_0 = up .f32 (fun _ : Fin 1 => D.cbR) := eq_up _ _ fun i j => by rw [← ix2_eq_valueIdx, Subsingleton.elim i 0, blk13_at]; exact h.cbR j
  have s14 : iblk m c 14 t0_0 = up .f32 D.w0R := eq_up _ _ fun i j => by rw [← ix2_eq_valueIdx, blk14_at]; exact h.w0R i j
  have s15 : iblk m c 15 t0_0 = up .f32 D.w1R := eq_up _ _ fun i j => by rw [← ix2_eq_valueIdx, blk15_at]; exact h.w1R i j
  have s16 : iblk m c 16 t0_0 = up .f32 (fun _ : Fin 1 => D.chbR) := eq_up _ _ fun i j => by rw [← ix2_eq_valueIdx, Subsingleton.elim i 0, blk16_at]; exact h.chbR j
  unfold outAt
  rw [s6, s7, s8, s9, s10, s12, s13, s14, s15, s16]
  refine (fused_at (V m c main_call0_v0) (V m c main_call0_v1) (V m c main_arg2) (iblk m c 0 t0_0) (iblk m c 1 t0_0) (iblk m c 2 t0_0) (iblk m c 3 t0_0)
    (iblk m c 4 t0_0) (iblk m c 5 t0_0) (iblk m c 11 t0_0) (iblk m c 17 t0_0) D.xE D.cwE D.cbE D.w0E D.w1E D.chbE D.xR D.cwR D.cbR D.w0R D.w1R D.chbR
    D.srcE D.dstE D.srcR D.dstR (fun i h => D.f ⟨i, by omega⟩ h) (fun i h => D.f ⟨1024 + i, by omega⟩ h)
    (fun b k => (x0_at m c b k).trans (h.xE _ _ _)) (fun b k => (x1_at m c b k).trans (h.xR _ _ _))
    (fun e => (blk11_at m c 0 e).trans (h.srcE e)) (fun e => (blk11_at m c 1 e).trans (h.dstE e))
    (fun e => (blk17_at m c 0 e).trans (h.srcR e)) (fun e => (blk17_at m c 1 e).trans (h.dstR e))
    (fun i j => (blk4_at m c _ j).trans (h.f ⟨i, by omega⟩ j)) (fun i j => (blk4_at m c _ j).trans (h.f ⟨1024 + i, by omega⟩ j)) b).trans ?_
  unfold Lift.Data.result
  rw [V_main_arg2]
  simp only [blk0_at, blk1_at, blk2_at, blk3_at, blk4_at, blk5_at]

/-- The result array after the launch. -/
theorem arrAt_eq : (dats m 0 c).arrAt 18 cfg0.N = outAt m c t0_0 := by
  refine (dats m 0 c).arrAt_eq_of_after_last 18 t0_0 (by decide +kernel) _ fun j => ?_
  blk_simp
  rfl

end Cert.KernelIdeal.Hand
-- ==== Proof.HostOps.lean ====
/-
  THE REFERENCE'S GATHERS AND SCATTERS, read at an index: rows of a table picked by one index word each, and updates added to the
  entries one index word each names. At any extents, so that both branches use them.
-/
module

public import Idealize.ShloMosaic.PureOps.Ideal
public import Idealize.ShloMosaic.Lib.ValueIdx
public import Idealize.ShloMosaic.Lib.Routing.OpsPair
public import Idealize.ShloMosaic.Lib.IdealHost

@[expose] public section

noncomputable section

namespace Cert.HostOps

open Idealize.ShloMosaic
open scoped BigOperators

variable {A V E L : ℕ}

/-- Picking entries of a vector: entry `e` of the result is the vector's entry at word `e`, when the word is in range. -/
theorem gather1 {α : Type} (d : GatherDims ⟨1, ![V]⟩ ⟨2, ![E, 1]⟩ ⟨1, ![E]⟩) (ho : d.offsetDims = []) (hc : d.collapsedSliceDims = [0])
    (hob : d.operandBatchingDims = []) (hsb : d.startIndicesBatchingDims = []) (hm : d.startIndexMap = [0]) (hv : d.indexVectorDim = 1)
    (hs : d.sliceSizes = ![1]) (x : (⟨1, ![V]⟩ : Shape).Idx → α) (idx : IVec ⟨2, ![E, 1]⟩ 32) (e : Fin E) (v : Fin V)
    (hi : (idx (ValueIdx.ix2 e 0)).toInt = v.val) : Host.gather d x idx (ValueIdx.ix1 e) = x (ValueIdx.ix1 v) := by
  obtain ⟨_, _, _, _, _, _, _, wf⟩ := d
  dsimp only at ho hc hob hsb hm hv hs
  subst ho hc hob hsb hm hv hs
  have hj : GatherDims.siIdx (⟨[], [0], [], [], [0], 1, ![1], wf⟩ : GatherDims ⟨1, ![V]⟩ ⟨2, ![E, 1]⟩ ⟨1, ![E]⟩) (ValueIdx.ix1 e) ⟨0, Nat.one_pos⟩ = ValueIdx.ix2 e 0 := by
    funext b; match b with | ⟨0, _⟩ => rfl | ⟨1, _⟩ => rfl
  refine congrArg x (funext fun a => Fin.ext ?_)
  match a with
  | ⟨0, _⟩ =>
    show min (idx (GatherDims.siIdx (⟨[], [0], [], [], [0], 1, ![1], wf⟩ : GatherDims ⟨1, ![V]⟩ ⟨2, ![E, 1]⟩ ⟨1, ![E]⟩) (ValueIdx.ix1 e) ⟨0, _⟩)).toInt.toNat (V - 1) + 0 + 0 = v.val
    rw [hj, hi]
    have := v.isLt
    omega

/-- Picking rows along the middle axis: entry `(a, e, l)` of the result is the operand's entry `(a, word e, l)`, when the word is in range. -/
theorem gather3 {α : Type} (d : GatherDims ⟨3, ![A, V, L]⟩ ⟨2, ![E, 1]⟩ ⟨3, ![A, E, L]⟩) (ho : d.offsetDims = [0, 2])
    (hc : d.collapsedSliceDims = [1]) (hob : d.operandBatchingDims = []) (hsb : d.startIndicesBatchingDims = [])
    (hm : d.startIndexMap = [1]) (hv : d.indexVectorDim = 1) (hs : d.sliceSizes = ![A, 1, L]) (x : (⟨3, ![A, V, L]⟩ : Shape).Idx → α)
    (idx : IVec ⟨2, ![E, 1]⟩ 32) (a : Fin A) (e : Fin E) (l : Fin L) (v : Fin V) (hi : (idx (ValueIdx.ix2 e 0)).toInt = v.val) :
    Host.gather d x idx (ValueIdx.ix3 a e l) = x (ValueIdx.ix3 a v l) := by
  obtain ⟨_, _, _, _, _, _, _, wf⟩ := d
  dsimp only at ho hc hob hsb hm hv hs
  subst ho hc hob hsb hm hv hs
  have hj : GatherDims.siIdx (⟨[0, 2], [1], [], [], [1], 1, ![A, 1, L], wf⟩ : GatherDims ⟨3, ![A, V, L]⟩ ⟨2, ![E, 1]⟩ ⟨3, ![A, E, L]⟩) (ValueIdx.ix3 a e l) ⟨0, Nat.one_pos⟩ = ValueIdx.ix2 e 0 := by
    funext b; match b with | ⟨0, _⟩ => rfl | ⟨1, _⟩ => rfl
  refine congrArg x (funext fun b => Fin.ext ?_)
  match b with
  | ⟨0, _⟩ => show 0 + 0 + a.val = a.val; omega
  | ⟨1, _⟩ =>
    show min (idx (GatherDims.siIdx (⟨[0, 2], [1], [], [], [1], 1, ![A, 1, L], wf⟩ : GatherDims ⟨3, ![A, V, L]⟩ ⟨2, ![E, 1]⟩ ⟨3, ![A, E, L]⟩) (ValueIdx.ix3 a e l) ⟨0, _⟩)).toInt.toNat (V - 1) + 0 + 0 = v.val
    rw [hj, hi]
    have := v.isLt
    omega
  | ⟨2, _⟩ => show 0 + 0 + l.val = l.val; omega

/-- Adding updates to the entries of a vector: entry `v` of the result is the operand's plus the updates whose word is `v`. -/
theorem scatter1 (d : ScatterDims ⟨1, ![V]⟩ ⟨2, ![E, 1]⟩ ⟨1, ![E]⟩) (hu : d.updateWindowDims = []) (hw : d.insertedWindowDims = [0])
    (hm : d.scatterDimsToOperandDims = [0]) (hv : d.indexVectorDim = 1) (x : (⟨1, ![V]⟩ : Shape).Idx → EReal)
    (idx : IVec ⟨2, ![E, 1]⟩ 32) (upd : (⟨1, ![E]⟩ : Shape).Idx → EReal) (v : Fin V) :
    Ideal.hostScatterAdd d x idx upd (ValueIdx.ix1 v) =
      x (ValueIdx.ix1 v) + ∑ e, if (idx (ValueIdx.ix2 e 0)).toInt = (v.val : ℤ) then upd (ValueIdx.ix1 e) else 0 := by
  obtain ⟨_, _, _, _, wf⟩ := d
  dsimp only at hu hw hm hv
  subst hu hw hm hv
  have hj : ∀ e, ScatterDims.siIdx ⟨[], [0], [0], 1, wf⟩ (ValueIdx.ix1 e) ⟨0, Nat.one_pos⟩ = ValueIdx.ix2 e 0 := fun e => by
    funext b; match b with | ⟨0, _⟩ => rfl | ⟨1, _⟩ => rfl
  have hl : ∀ e, ScatterDims.resultIdx? ⟨[], [0], [0], 1, wf⟩ (ValueIdx.ix1 e) idx = some (ValueIdx.ix1 v) ↔
      (idx (ValueIdx.ix2 e 0)).toInt = (v.val : ℤ) := fun e => by
    rw [Routing.resultIdx?_eq_some, ← hj e]
    refine ⟨fun h => ?_, fun h a => ?_⟩
    · have h0 : (idx (ScatterDims.siIdx ⟨[], [0], [0], 1, wf⟩ (ValueIdx.ix1 e) ⟨0, Nat.one_pos⟩)).toInt + 0 = (v.val : ℤ) := h 0
      omega
    · match a with
      | ⟨0, _⟩ =>
        show (idx (ScatterDims.siIdx ⟨[], [0], [0], 1, wf⟩ (ValueIdx.ix1 e) ⟨0, _⟩)).toInt + 0 = (v.val : ℤ)
        omega
  refine congrArg (x (ValueIdx.ix1 v) + ·) ?_
  rw [← Finset.sum_filter]
  refine Finset.sum_nbij' (fun j => j 0) (fun e => ValueIdx.ix1 e) (fun j hj => ?_) (fun e he => ?_) (fun j _ => ?_) (fun e _ => rfl) (fun j _ => ?_)
  · obtain ⟨e, rfl⟩ : ∃ e, j = ValueIdx.ix1 e := ⟨_, ValueIdx.eq_ix1 j⟩
    exact Finset.mem_filter.2 ⟨Finset.mem_univ _, (hl _).1 (Finset.mem_filter.1 hj).2⟩
  · exact Finset.mem_filter.2 ⟨Finset.mem_univ _, (hl _).2 (Finset.mem_filter.1 he).2⟩
  · exact (ValueIdx.eq_ix1 j).symm
  · exact congrArg upd (ValueIdx.eq_ix1 j)

/-- Adding rows along the middle axis: entry `(a, v, l)` of the result is the operand's plus the updates `(a, e, l)` whose word is `v`. -/
theorem scatter3 (d : ScatterDims ⟨3, ![A, V, L]⟩ ⟨2, ![E, 1]⟩ ⟨3, ![A, E, L]⟩) (hu : d.updateWindowDims = [0, 2])
    (hw : d.insertedWindowDims = [1]) (hm : d.scatterDimsToOperandDims = [1]) (hv : d.indexVectorDim = 1)
    (x : (⟨3, ![A, V, L]⟩ : Shape).Idx → EReal) (idx : IVec ⟨2, ![E, 1]⟩ 32) (upd : (⟨3, ![A, E, L]⟩ : Shape).Idx → EReal)
    (a : Fin A) (v : Fin V) (l : Fin L) :
    Ideal.hostScatterAdd d x idx upd (ValueIdx.ix3 a v l) =
      x (ValueIdx.ix3 a v l) + ∑ e, if (idx (ValueIdx.ix2 e 0)).toInt = (v.val : ℤ) then upd (ValueIdx.ix3 a e l) else 0 := by
  obtain ⟨_, _, _, _, wf⟩ := d
  dsimp only at hu hw hm hv
  subst hu hw hm hv
  have hj : ∀ a' e l', ScatterDims.siIdx ⟨[0, 2], [1], [1], 1, wf⟩ (ValueIdx.ix3 a' e l') ⟨0, Nat.one_pos⟩ = ValueIdx.ix2 e 0 := fun a' e l' => by
    funext b; match b with | ⟨0, _⟩ => rfl | ⟨1, _⟩ => rfl
  have hl : ∀ a' e l', ScatterDims.resultIdx? ⟨[0, 2], [1], [1], 1, wf⟩ (ValueIdx.ix3 a' e l') idx = some (ValueIdx.ix3 a v l) ↔
      (a' = a ∧ (idx (ValueIdx.ix2 e 0)).toInt = (v.val : ℤ)) ∧ l' = l := fun a' e l' => by
    rw [Routing.resultIdx?_eq_some, ← hj a' e l']
    refine ⟨fun h => ?_, fun h b => ?_⟩
    · have h0 : (0 : ℤ) + (a'.val : ℤ) = (a.val : ℤ) := h 0
      have h1 : (idx (ScatterDims.siIdx ⟨[0, 2], [1], [1], 1, wf⟩ (ValueIdx.ix3 a' e l') ⟨0, Nat.one_pos⟩)).toInt + 0 = (v.val : ℤ) := h 1
      have h2 : (0 : ℤ) + (l'.val : ℤ) = (l.val : ℤ) := h 2
      exact ⟨⟨Fin.ext (by omega), by omega⟩, Fin.ext (by omega)⟩
    · match b with
      | ⟨0, _⟩ =>
        show (0 : ℤ) + (a'.val : ℤ) = (a.val : ℤ)
        rw [h.1.1]; omega
      | ⟨1, _⟩ =>
        show (idx (ScatterDims.siIdx ⟨[0, 2], [1], [1], 1, wf⟩ (ValueIdx.ix3 a' e l') ⟨0, _⟩)).toInt + 0 = (v.val : ℤ)
        have := h.1.2
        omega
      | ⟨2, _⟩ =>
        show (0 : ℤ) + (l'.val : ℤ) = (l.val : ℤ)
        rw [h.2]; omega
  refine congrArg (x (ValueIdx.ix3 a v l) + ·) ?_
  rw [← Finset.sum_filter]
  have hf : ∀ j, ScatterDims.resultIdx? ⟨[0, 2], [1], [1], 1, wf⟩ j idx = some (ValueIdx.ix3 a v l) → ∃ e, j = ValueIdx.ix3 a e l ∧
      (idx (ValueIdx.ix2 e 0)).toInt = (v.val : ℤ) := fun j h => by
    obtain ⟨a', e, l', rfl⟩ : ∃ a' e l', j = ValueIdx.ix3 a' e l' := ⟨_, _, _, ValueIdx.eq_ix3 j⟩
    obtain ⟨⟨rfl, h1⟩, rfl⟩ := (hl _ _ _).1 h
    exact ⟨e, rfl, h1⟩
  refine Finset.sum_nbij' (fun j => j 1) (fun e => ValueIdx.ix3 a e l) (fun j hj => ?_) (fun e he => ?_) (fun j hj => ?_) (fun e _ => rfl) (fun j hj => ?_)
  · obtain ⟨e, rfl, h⟩ := hf j (Finset.mem_filter.1 hj).2
    exact Finset.mem_filter.2 ⟨Finset.mem_univ _, h⟩
  · exact Finset.mem_filter.2 ⟨Finset.mem_univ _, (hl _ _ _).2 ⟨⟨rfl, (Finset.mem_filter.1 he).2⟩, rfl⟩⟩
  · obtain ⟨e, rfl, _⟩ := hf j (Finset.mem_filter.1 hj).2
    rfl
  · obtain ⟨e, rfl, _⟩ := hf j (Finset.mem_filter.1 hj).2
    rfl

end Cert.HostOps
-- ==== Proof.HostReads.lean ====
/-
  SMALL READINGS BOTH BRANCHES OF THE REFERENCE SHARE: an index word in range is what jnp's wrap of it is, a padded sample, the guarded
  inverse square root over the reals.
-/
module

public import proofs.«01_k».proof.Proof.HostOps
public import proofs.«01_k».proof.Proof.Branch
public import Idealize.ShloMosaic.Lib.Pointwise
public import Idealize.ShloMosaic.Lib.Pointwise.IndexBridge

@[expose] public section

noncomputable section

namespace Cert.HostReads

open Idealize.ShloMosaic
open scoped BigOperators

/-- The wrap of a word that is a small number leaves it. -/
theorem wrap_small (a : BitVec 32) (n : ℕ) (h : n < 2 ^ 31) :
    (Scalar.select (IntOp.cmpi .slt (BitVec.ofNat 32 n) 0#32) a (BitVec.ofNat 32 n)).toInt = (n : ℤ) := by
  rw [Routing.wrap_of_lt _ _ (by rw [BitVec.toNat_ofNat, Nat.mod_eq_of_lt (by omega)]; exact h), Up.toInt_small n h]

/-- A sample of the padded input, however its position is written. -/
theorem pad_at {V : ℕ} (x : Fin V → Fin 25 → ℝ) (v : Fin V) (t s : ℕ) (p : Prop) [Decidable p] (hp : p ↔ 1 ≤ t ∧ t < 26) (hs : s = t - 1)
    (hlt : p → s < 25) :
    (if h : p then ((x v ⟨s, hlt h⟩ : ℝ) : EReal) else ((0 : ℝ) : EReal)) = ((Branch.pad x v t : ℝ) : EReal) := by
  subst hs
  unfold Branch.pad
  by_cases h : p
  · rw [dif_pos h, dif_pos (hp.1 h)]
  · rw [dif_neg h, dif_neg fun h' => h (hp.2 h')]

/-- The word zero as a number. -/
theorem sitofp_zero : (FloatOps.sitofp FTy.f32 0#32 : Ideal .f32) = ((0 : ℝ) : EReal) := by
  show (((0#32 : BitVec 32).toInt : ℝ) : EReal) = _
  norm_num

/-- The reference's guarded inverse square root of a real number. -/
theorem rdis_at (d : ℝ) :
    (if (0 : EReal) < ((d : ℝ) : EReal) then Ideal.div 1 (Ideal.sqrt (if (0 : EReal) < ((d : ℝ) : EReal) then ((d : ℝ) : EReal) else 1)) else 0)
      = ((Branch.rdis d : ℝ) : EReal) := by
  unfold Branch.rdis
  have hc : ((0 : EReal) < ((d : ℝ) : EReal)) ↔ 0 < d := by exact_mod_cast Iff.rfl
  by_cases h : 0 < d
  · rw [if_pos (hc.2 h), if_pos (hc.2 h), if_pos h]
    rw [Ideal.sqrt_coe, if_neg (not_lt.2 h.le), Ideal.div_coe (Real.sqrt_pos.2 h).ne', one_mul, one_div]
  · rw [if_neg (fun e => h (hc.1 e)), if_neg h]; rfl

end Cert.HostReads
-- ==== Proof.ReferenceEcc.lean ====
/-
  THE REFERENCE'S BRANCH OVER 16 NODES AND 32 EDGES, read at an index when its arguments are real numbers and every edge names nodes
  of the graph: the convolution, the degrees, the edges' weights, the sums over a node's edges, the Chebyshev layer.
-/
module

public import proofs.«01_k».proof.Proof.Gen.ReferenceIdeal.Run
public import proofs.«01_k».proof.Proof.HostReads

@[expose] public section

noncomputable section

namespace Cert.ReferenceIdeal.Ecc

open Idealize.ShloMosaic Idealize.ShloMosaic.StableHlo Cert.ReferenceIdeal.Value
open scoped BigOperators

/-- The branch's arguments are these real numbers, and its edges go from `src` to `dst`. -/
structure Reads (V0 : Valuation τ sig (Elt Ideal)) (x : Fin 1024 → Fin 16 → Fin 25 → ℝ) (cw : Fin 32 → Fin 3 → ℝ) (cb : Fin 32 → ℝ)
    (W0 W1 : Fin 800 → Fin 64 → ℝ) (chb : Fin 64 → ℝ) (src dst : Fin 32 → Fin 16) : Prop where
  x : ∀ b v t, V0 (Proc.tc.devRef main_arg0) (ix3 b v t) = ((x b v t : ℝ) : EReal)
  cw : ∀ c k, V0 (Proc.tc.devRef main_arg5) (ix3 c 0 k) = ((cw c k : ℝ) : EReal)
  cb : ∀ c, V0 (Proc.tc.devRef main_arg6) (ix1 c) = ((cb c : ℝ) : EReal)
  W0 : ∀ l g, V0 (Proc.tc.devRef main_arg9) (ix2 l g) = ((W0 l g : ℝ) : EReal)
  W1 : ∀ l g, V0 (Proc.tc.devRef main_arg10) (ix2 l g) = ((W1 l g : ℝ) : EReal)
  chb : ∀ g, V0 (Proc.tc.devRef main_arg11) (ix1 g) = ((chb g : ℝ) : EReal)
  src : ∀ e, V0 (Proc.tc.devRef main_arg3) (ix2 0 e) = BitVec.ofNat 32 (src e)
  dst : ∀ e, V0 (Proc.tc.devRef main_arg3) (ix2 1 e) = BitVec.ofNat 32 (dst e)

variable {V0 : Valuation τ sig (Elt Ideal)} {x : Fin 1024 → Fin 16 → Fin 25 → ℝ} {cw : Fin 32 → Fin 3 → ℝ} {cb : Fin 32 → ℝ}
  {W0 W1 : Fin 800 → Fin 64 → ℝ} {chb : Fin 64 → ℝ} {src dst : Fin 32 → Fin 16} (R : Reads V0 x cw cb W0 W1 chb src dst)

include R

/-- The convolution's output. -/
theorem conv_at (b : Fin 1024) (v : Fin 16) (l : Fin 800) :
    res_main_v33 (F := Ideal) V0 (ix3 b v l) = ((Branch.conv cw cb (x b) v l : ℝ) : EReal) := by
  have hb := b.isLt
  have hv := v.isLt
  have hl := Nat.mod_lt l.val (show 0 < 25 by norm_num)
  have ec : (⟨l.val / 25, by omega⟩ : Fin 32) = Fin.ofNat 32 (l / 25) := Fin.ext (Nat.mod_eq_of_lt (by omega)).symm
  unfold res_main_v33 res_main_v1
  pointwise
  simp only [R.x, R.cw, R.cb, HostReads.sitofp_zero, ec]
  have p0 := HostReads.pad_at (x b) v (l % 25) (l % 25 - 1) (b.val * 16 + v.val < 16384 ∧ 1 ≤ l.val % 25 ∧ l.val % 25 - 1 < 25)
    (by omega) (by omega) (fun h => h.2.2)
  have p1 := HostReads.pad_at (x b) v (l % 25 + 1) (l % 25) (b.val * 16 + v.val < 16384 ∧ l.val % 25 < 25) (by omega) (by omega) (fun h => h.2)
  have p2 := HostReads.pad_at (x b) v (l % 25 + 2) (2 + l % 25 - 1) (b.val * 16 + v.val < 16384 ∧ 1 ≤ 2 + l.val % 25 ∧ 2 + l.val % 25 - 1 < 25)
    (by omega) (by omega) (fun h => h.2.2)
  simp only [p0, p1, p2]
  unfold Branch.conv
  simp only [EReal.coe_add, EReal.coe_mul]

/-- The word of an edge's source, after the wrap. -/
theorem src_at (e : Fin 32) :
    (broadcastInDim S32x1 ![0] Gen.bcast_S32_S32x1_0 (select (cmpi .slt (res_main_v35 (F := Ideal) V0) (broadcastInDim S32 ![] Gen.bcast_S_S32 (constantI S_ 32 0#32)))
      (addi (res_main_v35 (F := Ideal) V0) (broadcastInDim S32 ![] Gen.bcast_S_S32 (constantI S_ 32 16#32))) (res_main_v35 (F := Ideal) V0)) (ValueIdx.ix2 e 0)).toInt
      = ((src e).val : ℤ) := by
  have h : res_main_v35 (F := Ideal) V0 (ix1 e) = BitVec.ofNat 32 (src e) := by
    unfold res_main_v35
    pointwise
    exact R.src e
  have := (src e).isLt
  refine Eq.trans ?_ (HostReads.wrap_small (IntOp.addi (BitVec.ofNat 32 (src e)) 16#32) (src e) (by omega))
  rw [← h, ← ix2_eq_valueIdx]
  pointwise

/-- The word of an edge's target, after the wrap. -/
theorem dst_at (e : Fin 32) :
    (broadcastInDim S32x1 ![0] Gen.bcast_S32_S32x1_0 (select (cmpi .slt (res_main_v37 (F := Ideal) V0) (broadcastInDim S32 ![] Gen.bcast_S_S32 (constantI S_ 32 0#32)))
      (addi (res_main_v37 (F := Ideal) V0) (broadcastInDim S32 ![] Gen.bcast_S_S32 (constantI S_ 32 16#32))) (res_main_v37 (F := Ideal) V0)) (ValueIdx.ix2 e 0)).toInt
      = ((dst e).val : ℤ) := by
  have h : res_main_v37 (F := Ideal) V0 (ix1 e) = BitVec.ofNat 32 (dst e) := by
    unfold res_main_v37
    pointwise
    exact R.dst e
  have := (dst e).isLt
  refine Eq.trans ?_ (HostReads.wrap_small (IntOp.addi (BitVec.ofNat 32 (dst e)) 16#32) (dst e) (by omega))
  rw [← h, ← ix2_eq_valueIdx]
  pointwise

/-- The degrees. -/
theorem deg_at (v : Fin 16) : res_main_v46 (F := Ideal) V0 (ValueIdx.ix1 v) = ((Branch.deg src v : ℝ) : EReal) := by
  unfold res_main_v46
  refine (HostOps.scatter1 scatter_S16_S32x1_S32_n_0_0_1 rfl rfl rfl rfl _ _ _ v).trans ?_
  simp only [src_at R]
  rw [← ix1_eq_valueIdx]
  simp only [← ix1_eq_valueIdx]
  pointwise
  unfold Branch.deg
  rw [← Up.coe_sum]
  refine Finset.sum_congr rfl fun e _ => ?_
  by_cases h : src e = v
  · rw [if_pos h, if_pos (by rw [h])]; rfl
  · rw [if_neg h, if_neg fun h' => h (Fin.ext (by exact_mod_cast h'))]; rfl

/-- The inverse square roots of the degrees. -/
theorem dis_at (v : Fin 16) : res_main_v55 (F := Ideal) V0 (ValueIdx.ix1 v) = ((Branch.rdis (Branch.deg src v) : ℝ) : EReal) := by
  unfold res_main_v55
  simp only [id]
  rw [← HostReads.rdis_at, ← deg_at R, ← ix1_eq_valueIdx]
  pointwise

/-- An edge's weighted source features. -/
theorem upd_at (b : Fin 1024) (e : Fin 32) (l : Fin 800) :
    mulf (Host.gather gather_S1024x16x800_S32x1_S1024x32x800_02_1_n_n_1_1_10241800 (res_main_v33 (F := Ideal) V0) (broadcastInDim S32x1 ![0] Gen.bcast_S32_S32x1_0 (select (cmpi .slt (res_main_v35 V0) (broadcastInDim S32 ![] Gen.bcast_S_S32 (constantI S_ 32 0#32))) (addi (res_main_v35 V0) (broadcastInDim S32 ![] Gen.bcast_S_S32 (constantI S_ 32 16#32))) (res_main_v35 V0)))) (broadcastInDim S1024x32x800 ![0, 1, 2] Gen.bcast_S1x32x1_S1024x32x800_0_1_2 (broadcastInDim S1x32x1 ![1] Gen.bcast_S32_S1x32x1_1 (Host.negf (mulf (Host.gather gather_S16_S32x1_S32_n_0_n_n_0_1_1 (res_main_v55 V0) (broadcastInDim S32x1 ![0] Gen.bcast_S32_S32x1_0 (select (cmpi .slt (res_main_v35 V0) (broadcastInDim S32 ![] Gen.bcast_S_S32 (constantI S_ 32 0#32))) (addi (res_main_v35 V0) (broadcastInDim S32 ![] Gen.bcast_S_S32 (constantI S_ 32 16#32))) (res_main_v35 V0)))) (Host.gather gather_S16_S32x1_S32_n_0_n_n_0_1_1 (res_main_v55 V0) (broadcastInDim S32x1 ![0] Gen.bcast_S32_S32x1_0 (select (cmpi .slt (res_main_v37 V0) (broadcastInDim S32 ![] Gen.bcast_S_S32 (constantI S_ 32 0#32))) (addi (res_main_v37 V0) (broadcastInDim S32 ![] Gen.bcast_S_S32 (constantI S_ 32 16#32))) (res_main_v37 V0)))))))) (ValueIdx.ix3 b e l)
      = ((Branch.conv cw cb (x b) (src e) l * Branch.wt src dst e : ℝ) : EReal) := by
  have e0 := (HostOps.gather3 gather_S1024x16x800_S32x1_S1024x32x800_02_1_n_n_1_1_10241800 rfl rfl rfl rfl rfl rfl rfl (res_main_v33 (F := Ideal) V0) _ b e l (src e) (src_at R e)).trans
    ((congrArg _ (ix3_eq_valueIdx b (src e) l).symm).trans (conv_at R b (src e) l))
  have e1 := (HostOps.gather1 gather_S16_S32x1_S32_n_0_n_n_0_1_1 rfl rfl rfl rfl rfl rfl rfl (res_main_v55 (F := Ideal) V0) _ e (src e) (src_at R e)).trans (dis_at R (src e))
  have e2 := (HostOps.gather1 gather_S16_S32x1_S32_n_0_n_n_0_1_1 rfl rfl rfl rfl rfl rfl rfl (res_main_v55 (F := Ideal) V0) _ e (dst e) (dst_at R e)).trans (dis_at R (dst e))
  rw [← ix1_eq_valueIdx] at e1 e2
  rw [← ix3_eq_valueIdx] at e0 ⊢
  generalize Host.gather gather_S1024x16x800_S32x1_S1024x32x800_02_1_n_n_1_1_10241800 _ _ = g0 at e0 ⊢
  generalize Host.gather gather_S16_S32x1_S32_n_0_n_n_0_1_1 _ (broadcastInDim S32x1 ![0] Gen.bcast_S32_S32x1_0 (select (cmpi .slt (res_main_v35 (F := Ideal) V0) _) _ _)) = g1 at e1 ⊢
  generalize Host.gather gather_S16_S32x1_S32_n_0_n_n_0_1_1 _ _ = g2 at e2 ⊢
  pointwise
  rw [e0, e1, e2]
  unfold Branch.wt
  push_cast
  rfl

/-- The propagated features: what a node's edges add up to. -/
theorem gath_at (b : Fin 1024) (v : Fin 16) (l : Fin 800) :
    Host.scatterAdd scatter_S1024x16x800_S32x1_S1024x32x800_02_1_1_1 (broadcastInDim S1024x16x800 ![] Gen.bcast_S_S1024x16x800 (constant (F := Ideal) S_ .f32 0x00000000#32)) (broadcastInDim S32x1 ![0] Gen.bcast_S32_S32x1_0 (select (cmpi .slt (res_main_v37 (F := Ideal) V0) (broadcastInDim S32 ![] Gen.bcast_S_S32 (constantI S_ 32 0#32))) (addi (res_main_v37 V0) (broadcastInDim S32 ![] Gen.bcast_S_S32 (constantI S_ 32 16#32))) (res_main_v37 V0))) (mulf (Host.gather gather_S1024x16x800_S32x1_S1024x32x800_02_1_n_n_1_1_10241800 (res_main_v33 (F := Ideal) V0) (broadcastInDim S32x1 ![0] Gen.bcast_S32_S32x1_0 (select (cmpi .slt (res_main_v35 V0) (broadcastInDim S32 ![] Gen.bcast_S_S32 (constantI S_ 32 0#32))) (addi (res_main_v35 V0) (broadcastInDim S32 ![] Gen.bcast_S_S32 (constantI S_ 32 16#32))) (res_main_v35 V0)))) (broadcastInDim S1024x32x800 ![0, 1, 2] Gen.bcast_S1x32x1_S1024x32x800_0_1_2 (broadcastInDim S1x32x1 ![1] Gen.bcast_S32_S1x32x1_1 (Host.negf (mulf (Host.gather gather_S16_S32x1_S32_n_0_n_n_0_1_1 (res_main_v55 V0) (broadcastInDim S32x1 ![0] Gen.bcast_S32_S32x1_0 (select (cmpi .slt (res_main_v35 V0) (broadcastInDim S32 ![] Gen.bcast_S_S32 (constantI S_ 32 0#32))) (addi (res_main_v35 V0) (broadcastInDim S32 ![] Gen.bcast_S_S32 (constantI S_ 32 16#32))) (res_main_v35 V0)))) (Host.gather gather_S16_S32x1_S32_n_0_n_n_0_1_1 (res_main_v55 V0) (broadcastInDim S32x1 ![0] Gen.bcast_S32_S32x1_0 (select (cmpi .slt (res_main_v37 V0) (broadcastInDim S32 ![] Gen.bcast_S_S32 (constantI S_ 32 0#32))) (addi (res_main_v37 V0) (broadcastInDim S32 ![] Gen.bcast_S_S32 (constantI S_ 32 16#32))) (res_main_v37 V0))))))))) (ix3 b v l)
      = ((Branch.gath src dst cw cb (x b) v l : ℝ) : EReal) := by
  rw [ix3_eq_valueIdx]
  refine (HostOps.scatter3 scatter_S1024x16x800_S32x1_S1024x32x800_02_1_1_1 rfl rfl rfl rfl _ _ _ b v l).trans ?_
  simp only [dst_at R, upd_at R]
  rw [← ix3_eq_valueIdx]
  pointwise
  unfold Branch.gath
  rw [← Up.coe_sum]
  refine Finset.sum_congr rfl fun e _ => ?_
  by_cases h : dst e = v
  · rw [if_pos h, if_pos (by rw [h])]
  · rw [if_neg h, if_neg fun h' => h (Fin.ext (by exact_mod_cast h'))]; rfl

/-- The branch's columns of the concatenation. -/
theorem cols_at (b : Fin 1024) (k : Fin 1024) :
    res_main_v194 (F := Ideal) V0 (ix2 b ⟨k, by omega⟩)
      = ((Branch.cheb src dst cw cb W0 W1 chb (x b) (Fin.ofNat 16 (k / 64)) (Fin.ofNat 64 (k % 64)) : ℝ) : EReal) := by
  have hk := k.isLt
  have e1 : (⟨k.val / 64, by omega⟩ : Fin 16) = Fin.ofNat 16 (k / 64) := Fin.ext (Nat.mod_eq_of_lt (by omega)).symm
  have e2 : (⟨k.val % 64, by omega⟩ : Fin 64) = Fin.ofNat 64 (k % 64) := Fin.ext (Nat.mod_eq_of_lt (by omega)).symm
  unfold res_main_v194
  pointwise
  simp only [gath_at R, conv_at R, R.W0, R.W1, R.chb, e1, e2, ← EReal.coe_mul, Up.coe_sum, ← EReal.coe_add]
  rfl

end Cert.ReferenceIdeal.Ecc

end
-- ==== Proof.ReferenceErr.lean ====
/-
  THE REFERENCE'S BRANCH OVER 12 NODES AND 24 EDGES, read at an index when its arguments are real numbers and every edge names nodes
  of the graph: the convolution, the degrees, the edges' weights, the sums over a node's edges, the Chebyshev layer.
-/
module

public import proofs.«01_k».proof.Proof.Gen.ReferenceIdeal.Run
public import proofs.«01_k».proof.Proof.HostReads

@[expose] public section

noncomputable section

namespace Cert.ReferenceIdeal.Err

open Idealize.ShloMosaic Idealize.ShloMosaic.StableHlo Cert.ReferenceIdeal.Value
open scoped BigOperators

/-- The branch's arguments are these real numbers, and its edges go from `src` to `dst`. -/
structure Reads (V0 : Valuation τ sig (Elt Ideal)) (x : Fin 1024 → Fin 12 → Fin 25 → ℝ) (cw : Fin 32 → Fin 3 → ℝ) (cb : Fin 32 → ℝ)
    (W0 W1 : Fin 800 → Fin 64 → ℝ) (chb : Fin 64 → ℝ) (src dst : Fin 24 → Fin 12) : Prop where
  x : ∀ b v t, V0 (Proc.tc.devRef main_arg1) (ix3 b v t) = ((x b v t : ℝ) : EReal)
  cw : ∀ c k, V0 (Proc.tc.devRef main_arg7) (ix3 c 0 k) = ((cw c k : ℝ) : EReal)
  cb : ∀ c, V0 (Proc.tc.devRef main_arg8) (ix1 c) = ((cb c : ℝ) : EReal)
  W0 : ∀ l g, V0 (Proc.tc.devRef main_arg12) (ix2 l g) = ((W0 l g : ℝ) : EReal)
  W1 : ∀ l g, V0 (Proc.tc.devRef main_arg13) (ix2 l g) = ((W1 l g : ℝ) : EReal)
  chb : ∀ g, V0 (Proc.tc.devRef main_arg14) (ix1 g) = ((chb g : ℝ) : EReal)
  src : ∀ e, V0 (Proc.tc.devRef main_arg4) (ix2 0 e) = BitVec.ofNat 32 (src e)
  dst : ∀ e, V0 (Proc.tc.devRef main_arg4) (ix2 1 e) = BitVec.ofNat 32 (dst e)

variable {V0 : Valuation τ sig (Elt Ideal)} {x : Fin 1024 → Fin 12 → Fin 25 → ℝ} {cw : Fin 32 → Fin 3 → ℝ} {cb : Fin 32 → ℝ}
  {W0 W1 : Fin 800 → Fin 64 → ℝ} {chb : Fin 64 → ℝ} {src dst : Fin 24 → Fin 12} (R : Reads V0 x cw cb W0 W1 chb src dst)

include R

/-- The convolution's output. -/
theorem conv_at (b : Fin 1024) (v : Fin 12) (l : Fin 800) :
    res_main_v129 (F := Ideal) V0 (ix3 b v l) = ((Branch.conv cw cb (x b) v l : ℝ) : EReal) := by
  have hb := b.isLt
  have hv := v.isLt
  have hl := Nat.mod_lt l.val (show 0 < 25 by norm_num)
  have ec : (⟨l.val / 25, by omega⟩ : Fin 32) = Fin.ofNat 32 (l / 25) := Fin.ext (Nat.mod_eq_of_lt (by omega)).symm
  unfold res_main_v129 res_main_v97
  pointwise
  simp only [R.x, R.cw, R.cb, HostReads.sitofp_zero, ec]
  have p0 := HostReads.pad_at (x b) v (l % 25) (l % 25 - 1) (b.val * 12 + v.val < 12288 ∧ 1 ≤ l.val % 25 ∧ l.val % 25 - 1 < 25)
    (by omega) (by omega) (fun h => h.2.2)
  have p1 := HostReads.pad_at (x b) v (l % 25 + 1) (l % 25) (b.val * 12 + v.val < 12288 ∧ l.val % 25 < 25) (by omega) (by omega) (fun h => h.2)
  have p2 := HostReads.pad_at (x b) v (l % 25 + 2) (2 + l % 25 - 1) (b.val * 12 + v.val < 12288 ∧ 1 ≤ 2 + l.val % 25 ∧ 2 + l.val % 25 - 1 < 25)
    (by omega) (by omega) (fun h => h.2.2)
  simp only [p0, p1, p2]
  unfold Branch.conv
  simp only [EReal.coe_add, EReal.coe_mul]

/-- The word of an edge's source, after the wrap. -/
theorem src_at (e : Fin 24) :
    (broadcastInDim S24x1 ![0] Gen.bcast_S24_S24x1_0 (select (cmpi .slt (res_main_v131 (F := Ideal) V0) (broadcastInDim S24 ![] Gen.bcast_S_S24 (constantI S_ 32 0#32)))
      (addi (res_main_v131 (F := Ideal) V0) (broadcastInDim S24 ![] Gen.bcast_S_S24 (constantI S_ 32 12#32))) (res_main_v131 (F := Ideal) V0)) (ValueIdx.ix2 e 0)).toInt
      = ((src e).val : ℤ) := by
  have h : res_main_v131 (F := Ideal) V0 (ix1 e) = BitVec.ofNat 32 (src e) := by
    unfold res_main_v131
    pointwise
    exact R.src e
  have := (src e).isLt
  refine Eq.trans ?_ (HostReads.wrap_small (IntOp.addi (BitVec.ofNat 32 (src e)) 12#32) (src e) (by omega))
  rw [← h, ← ix2_eq_valueIdx]
  pointwise

/-- The word of an edge's target, after the wrap. -/
theorem dst_at (e : Fin 24) :
    (broadcastInDim S24x1 ![0] Gen.bcast_S24_S24x1_0 (select (cmpi .slt (res_main_v133 (F := Ideal) V0) (broadcastInDim S24 ![] Gen.bcast_S_S24 (constantI S_ 32 0#32)))
      (addi (res_main_v133 (F := Ideal) V0) (broadcastInDim S24 ![] Gen.bcast_S_S24 (constantI S_ 32 12#32))) (res_main_v133 (F := Ideal) V0)) (ValueIdx.ix2 e 0)).toInt
      = ((dst e).val : ℤ) := by
  have h : res_main_v133 (F := Ideal) V0 (ix1 e) = BitVec.ofNat 32 (dst e) := by
    unfold res_main_v133
    pointwise
    exact R.dst e
  have := (dst e).isLt
  refine Eq.trans ?_ (HostReads.wrap_small (IntOp.addi (BitVec.ofNat 32 (dst e)) 12#32) (dst e) (by omega))
  rw [← h, ← ix2_eq_valueIdx]
  pointwise

/-- The degrees. -/
theorem deg_at (v : Fin 12) : res_main_v142 (F := Ideal) V0 (ValueIdx.ix1 v) = ((Branch.deg src v : ℝ) : EReal) := by
  unfold res_main_v142
  refine (HostOps.scatter1 scatter_S12_S24x1_S24_n_0_0_1 rfl rfl rfl rfl _ _ _ v).trans ?_
  simp only [src_at R]
  rw [← ix1_eq_valueIdx]
  simp only [← ix1_eq_valueIdx]
  pointwise
  unfold Branch.deg
  rw [← Up.coe_sum]
  refine Finset.sum_congr rfl fun e _ => ?_
  by_cases h : src e = v
  · rw [if_pos h, if_pos (by rw [h])]; rfl
  · rw [if_neg h, if_neg fun h' => h (Fin.ext (by exact_mod_cast h'))]; rfl

/-- The inverse square roots of the degrees. -/
theorem dis_at (v : Fin 12) : res_main_v151 (F := Ideal) V0 (ValueIdx.ix1 v) = ((Branch.rdis (Branch.deg src v) : ℝ) : EReal) := by
  unfold res_main_v151
  simp only [id]
  rw [← HostReads.rdis_at, ← deg_at R, ← ix1_eq_valueIdx]
  pointwise

/-- An edge's weighted source features. -/
theorem upd_at (b : Fin 1024) (e : Fin 24) (l : Fin 800) :
    mulf (Host.gather gather_S1024x12x800_S24x1_S1024x24x800_02_1_n_n_1_1_10241800 (res_main_v129 (F := Ideal) V0) (broadcastInDim S24x1 ![0] Gen.bcast_S24_S24x1_0 (select (cmpi .slt (res_main_v131 V0) (broadcastInDim S24 ![] Gen.bcast_S_S24 (constantI S_ 32 0#32))) (addi (res_main_v131 V0) (broadcastInDim S24 ![] Gen.bcast_S_S24 (constantI S_ 32 12#32))) (res_main_v131 V0)))) (broadcastInDim S1024x24x800 ![0, 1, 2] Gen.bcast_S1x24x1_S1024x24x800_0_1_2 (broadcastInDim S1x24x1 ![1] Gen.bcast_S24_S1x24x1_1 (Host.negf (mulf (Host.gather gather_S12_S24x1_S24_n_0_n_n_0_1_1 (res_main_v151 V0) (broadcastInDim S24x1 ![0] Gen.bcast_S24_S24x1_0 (select (cmpi .slt (res_main_v131 V0) (broadcastInDim S24 ![] Gen.bcast_S_S24 (constantI S_ 32 0#32))) (addi (res_main_v131 V0) (broadcastInDim S24 ![] Gen.bcast_S_S24 (constantI S_ 32 12#32))) (res_main_v131 V0)))) (Host.gather gather_S12_S24x1_S24_n_0_n_n_0_1_1 (res_main_v151 V0) (broadcastInDim S24x1 ![0] Gen.bcast_S24_S24x1_0 (select (cmpi .slt (res_main_v133 V0) (broadcastInDim S24 ![] Gen.bcast_S_S24 (constantI S_ 32 0#32))) (addi (res_main_v133 V0) (broadcastInDim S24 ![] Gen.bcast_S_S24 (constantI S_ 32 12#32))) (res_main_v133 V0)))))))) (ValueIdx.ix3 b e l)
      = ((Branch.conv cw cb (x b) (src e) l * Branch.wt src dst e : ℝ) : EReal) := by
  have e0 := (HostOps.gather3 gather_S1024x12x800_S24x1_S1024x24x800_02_1_n_n_1_1_10241800 rfl rfl rfl rfl rfl rfl rfl (res_main_v129 (F := Ideal) V0) _ b e l (src e) (src_at R e)).trans
    ((congrArg _ (ix3_eq_valueIdx b (src e) l).symm).trans (conv_at R b (src e) l))
  have e1 := (HostOps.gather1 gather_S12_S24x1_S24_n_0_n_n_0_1_1 rfl rfl rfl rfl rfl rfl rfl (res_main_v151 (F := Ideal) V0) _ e (src e) (src_at R e)).trans (dis_at R (src e))
  have e2 := (HostOps.gather1 gather_S12_S24x1_S24_n_0_n_n_0_1_1 rfl rfl rfl rfl rfl rfl rfl (res_main_v151 (F := Ideal) V0) _ e (dst e) (dst_at R e)).trans (dis_at R (dst e))
  rw [← ix1_eq_valueIdx] at e1 e2
  rw [← ix3_eq_valueIdx] at e0 ⊢
  generalize Host.gather gather_S1024x12x800_S24x1_S1024x24x800_02_1_n_n_1_1_10241800 _ _ = g0 at e0 ⊢
  generalize Host.gather gather_S12_S24x1_S24_n_0_n_n_0_1_1 _ (broadcastInDim S24x1 ![0] Gen.bcast_S24_S24x1_0 (select (cmpi .slt (res_main_v131 (F := Ideal) V0) _) _ _)) = g1 at e1 ⊢
  generalize Host.gather gather_S12_S24x1_S24_n_0_n_n_0_1_1 _ _ = g2 at e2 ⊢
  pointwise
  rw [e0, e1, e2]
  unfold Branch.wt
  push_cast
  rfl

/-- The propagated features: what a node's edges add up to. -/
theorem gath_at (b : Fin 1024) (v : Fin 12) (l : Fin 800) :
    Host.scatterAdd scatter_S1024x12x800_S24x1_S1024x24x800_02_1_1_1 (broadcastInDim S1024x12x800 ![] Gen.bcast_S_S1024x12x800 (constant (F := Ideal) S_ .f32 0x00000000#32)) (broadcastInDim S24x1 ![0] Gen.bcast_S24_S24x1_0 (select (cmpi .slt (res_main_v133 (F := Ideal) V0) (broadcastInDim S24 ![] Gen.bcast_S_S24 (constantI S_ 32 0#32))) (addi (res_main_v133 V0) (broadcastInDim S24 ![] Gen.bcast_S_S24 (constantI S_ 32 12#32))) (res_main_v133 V0))) (mulf (Host.gather gather_S1024x12x800_S24x1_S1024x24x800_02_1_n_n_1_1_10241800 (res_main_v129 (F := Ideal) V0) (broadcastInDim S24x1 ![0] Gen.bcast_S24_S24x1_0 (select (cmpi .slt (res_main_v131 V0) (broadcastInDim S24 ![] Gen.bcast_S_S24 (constantI S_ 32 0#32))) (addi (res_main_v131 V0) (broadcastInDim S24 ![] Gen.bcast_S_S24 (constantI S_ 32 12#32))) (res_main_v131 V0)))) (broadcastInDim S1024x24x800 ![0, 1, 2] Gen.bcast_S1x24x1_S1024x24x800_0_1_2 (broadcastInDim S1x24x1 ![1] Gen.bcast_S24_S1x24x1_1 (Host.negf (mulf (Host.gather gather_S12_S24x1_S24_n_0_n_n_0_1_1 (res_main_v151 V0) (broadcastInDim S24x1 ![0] Gen.bcast_S24_S24x1_0 (select (cmpi .slt (res_main_v131 V0) (broadcastInDim S24 ![] Gen.bcast_S_S24 (constantI S_ 32 0#32))) (addi (res_main_v131 V0) (broadcastInDim S24 ![] Gen.bcast_S_S24 (constantI S_ 32 12#32))) (res_main_v131 V0)))) (Host.gather gather_S12_S24x1_S24_n_0_n_n_0_1_1 (res_main_v151 V0) (broadcastInDim S24x1 ![0] Gen.bcast_S24_S24x1_0 (select (cmpi .slt (res_main_v133 V0) (broadcastInDim S24 ![] Gen.bcast_S_S24 (constantI S_ 32 0#32))) (addi (res_main_v133 V0) (broadcastInDim S24 ![] Gen.bcast_S_S24 (constantI S_ 32 12#32))) (res_main_v133 V0))))))))) (ix3 b v l)
      = ((Branch.gath src dst cw cb (x b) v l : ℝ) : EReal) := by
  rw [ix3_eq_valueIdx]
  refine (HostOps.scatter3 scatter_S1024x12x800_S24x1_S1024x24x800_02_1_1_1 rfl rfl rfl rfl _ _ _ b v l).trans ?_
  simp only [dst_at R, upd_at R]
  rw [← ix3_eq_valueIdx]
  pointwise
  unfold Branch.gath
  rw [← Up.coe_sum]
  refine Finset.sum_congr rfl fun e _ => ?_
  by_cases h : dst e = v
  · rw [if_pos h, if_pos (by rw [h])]
  · rw [if_neg h, if_neg fun h' => h (Fin.ext (by exact_mod_cast h'))]; rfl

/-- The branch's columns of the concatenation. -/
theorem cols_at (b : Fin 1024) (k : Fin 768) :
    res_main_v194 (F := Ideal) V0 (ix2 b ⟨1024 + k, by omega⟩)
      = ((Branch.cheb src dst cw cb W0 W1 chb (x b) (Fin.ofNat 12 (k / 64)) (Fin.ofNat 64 (k % 64)) : ℝ) : EReal) := by
  have hk := k.isLt
  have e1 : (⟨k.val / 64, by omega⟩ : Fin 12) = Fin.ofNat 12 (k / 64) := Fin.ext (Nat.mod_eq_of_lt (by omega)).symm
  have e2 : (⟨k.val % 64, by omega⟩ : Fin 64) = Fin.ofNat 64 (k % 64) := Fin.ext (Nat.mod_eq_of_lt (by omega)).symm
  unfold res_main_v194
  pointwise
  simp only [gath_at R, conv_at R, R.W0, R.W1, R.chb, e1, e2, ← EReal.coe_mul, Up.coe_sum, ← EReal.coe_add]
  rfl

end Cert.ReferenceIdeal.Err

end
-- ==== Proof.ReferenceHead.lean ====
/-
  THE REFERENCE'S RESULT AT A SAMPLE: its last steps, and with the two graph branches' columns the score of Proof/Head.lean.
-/
module

public import proofs.«01_k».proof.Proof.ReferenceEcc
public import proofs.«01_k».proof.Proof.ReferenceErr
public import proofs.«01_k».proof.Proof.Head

@[expose] public section

noncomputable section

namespace Cert.ReferenceIdeal.Hand

open Cert.ReferenceIdeal Cert.ReferenceIdeal.Gen
open Idealize.ShloMosaic Idealize.ShloMosaic.StableHlo Cert.ReferenceIdeal.Value
open scoped BigOperators

/-- The reference after its two graph branches, whose features are the columns of `A`. -/
def tail (A : FVec Ideal S1024x1792 .f32) (x : FVec Ideal S1024x128 .f32) (W : FVec Ideal S128x64 .f32) (b : FVec Ideal S64 .f32)
    (fW : FVec Ideal S1856x128 .f32) (fb : FVec Ideal S128 .f32) (W2 : FVec Ideal S128x1 .f32) (b2 : FVec Ideal S1 .f32) : FVec Ideal S1024x1 .f32 :=
  Host.divf (broadcastInDim S1024x1 ![] bcast_S_S1024x1 (constant S_ .f32 0x3F800000#32)) (addf (broadcastInDim S1024x1 ![] bcast_S_S1024x1 (constant S_ .f32 0x3F800000#32)) (Host.exp (Host.negf (addf (Host.dotGeneral dot_S1024x128_S128x1_S1024x1_1_0_0_1_n_n none (maximumf (addf (Host.dotGeneral dot_S1024x1856_S1856x128_S1024x128_1_0_0_1_n_n none (concatenate S1024x1856 1 [⟨S1024x1792, A⟩, ⟨S1024x64, (maximumf (addf (Host.dotGeneral dot_S1024x128_S128x64_S1024x64_1_0_0_1_n_n none x W) (broadcastInDim S1024x64 ![0, 1] bcast_S1x64_S1024x64_0_1 (broadcastInDim S1x64 ![1] bcast_S64_S1x64_1 b))) (broadcastInDim S1024x64 ![] bcast_S_S1024x64 (constant S_ .f32 0x00000000#32)))⟩] concatenates_S1024x1792_S1024x64_S1024x1856_d1) fW) (broadcastInDim S1024x128 ![0, 1] bcast_S1x128_S1024x128_0_1 (broadcastInDim S1x128 ![1] bcast_S128_S1x128_1 fb))) (broadcastInDim S1024x128 ![] bcast_S_S1024x128 (constant S_ .f32 0x00000000#32))) W2) (broadcastInDim S1024x1 ![0, 1] bcast_S1x1_S1024x1_0_1 (broadcastInDim S1x1 ![1] bcast_S1_S1x1_1 b2))))))

/-- A sum over the 1792 columns of the graph branches, one branch after the other. -/
theorem sum_cols (f : Fin 1792 → EReal) : ∑ k, f k = ∑ i : Fin 1024, f ⟨i, by omega⟩ + ∑ i : Fin 768, f ⟨1024 + i, by omega⟩ := by
  rw [show ∑ k, f k = ∑ k : Fin (1024 + 768), f k from rfl, Fin.sum_univ_add]
  rfl

/-- The last steps at a sample. -/
theorem tail_at (A : FVec Ideal S1024x1792 .f32) (x : FVec Ideal S1024x128 .f32) (W : FVec Ideal S128x64 .f32) (b : FVec Ideal S64 .f32)
    (fW : FVec Ideal S1856x128 .f32) (fb : FVec Ideal S128 .f32) (W2 : FVec Ideal S128x1 .f32) (b2 : FVec Ideal S1 .f32)
    (E : Fin 1024 → ℝ) (R : Fin 768 → ℝ) (fE : Fin 1024 → Fin 128 → ℝ) (fR : Fin 768 → Fin 128 → ℝ) (s : Fin 1024)
    (hE : ∀ j : Fin 1024, A (ix2 s ⟨j, by omega⟩) = ((E j : ℝ) : EReal)) (hR : ∀ j : Fin 768, A (ix2 s ⟨1024 + j, by omega⟩) = ((R j : ℝ) : EReal))
    (hfE : ∀ (i : Fin 1024) j, fW (ix2 ⟨i, by omega⟩ j) = ((fE i j : ℝ) : EReal)) (hfR : ∀ (i : Fin 768) j, fW (ix2 ⟨1024 + i, by omega⟩ j) = ((fR i j : ℝ) : EReal)) :
    tail A x W b fW fb W2 b2 (ix2 s 0)
      = Head.score (Head.latent E R fE fR (Head.hid (fun i => x (ix2 s i)) (fun i j => W (ix2 i j)) (fun j => b (ix1 j)))
          (fun j h => fW (ix2 ⟨1792 + j, by omega⟩ h)) (fun h => fb (ix1 h))) (fun h => W2 (ix2 h 0)) (b2 (ix1 0)) := by
  unfold tail
  pointwise
  unfold Head.score Ideal.logistic
  congr 4
  refine congrArg (· + b2 (ix1 0)) (Finset.sum_congr rfl fun h _ => congrArg (fun z => max z 0 * W2 (ix2 h 0)) ?_)
  unfold Head.latent Head.hid
  refine congrArg (fun z => z + _ + fb (ix1 h)) ?_
  rw [sum_cols, ← Up.coe_sum, ← Up.coe_sum]
  refine congrArg₂ (· + ·) (Finset.sum_congr rfl fun k _ => ?_) (Finset.sum_congr rfl fun k _ => ?_)
  · rw [hE, EReal.coe_mul]
    exact congrArg _ (hfE k h)
  · rw [hR, EReal.coe_mul]
    exact congrArg _ (hfR k h)

end Cert.ReferenceIdeal.Hand
-- ==== Proof.ReferenceValue.lean ====
/-
  THE REFERENCE'S RESULT, as the column of Proof/Result.lean.
-/
module

public import proofs.«01_k».proof.Proof.ReferenceHead
public import proofs.«01_k».proof.Proof.Result

@[expose] public section

noncomputable section

namespace Cert.ReferenceIdeal.Hand

open Cert.ReferenceIdeal Cert.ReferenceIdeal.Gen
open Idealize.ShloMosaic Idealize.ShloMosaic.StableHlo Cert.ReferenceIdeal.Value

variable (V0 : Valuation τ sig (Elt Ideal))

/-- What the reference computes of its arguments. -/
theorem tail_eq (D : Lift.Data) (h : D.Of (V0 (Proc.tc.devRef main_arg0)) (V0 (Proc.tc.devRef main_arg1)) (V0 (Proc.tc.devRef main_arg3)) (V0 (Proc.tc.devRef main_arg4)) (V0 (Proc.tc.devRef main_arg5)) (V0 (Proc.tc.devRef main_arg6)) (V0 (Proc.tc.devRef main_arg7)) (V0 (Proc.tc.devRef main_arg8)) (V0 (Proc.tc.devRef main_arg9)) (V0 (Proc.tc.devRef main_arg10)) (V0 (Proc.tc.devRef main_arg11)) (V0 (Proc.tc.devRef main_arg12)) (V0 (Proc.tc.devRef main_arg13)) (V0 (Proc.tc.devRef main_arg14)) (V0 (Proc.tc.devRef main_arg17))) :
    tail (res_main_v194 V0) (V0 (Proc.tc.devRef main_arg2)) (V0 (Proc.tc.devRef main_arg15)) (V0 (Proc.tc.devRef main_arg16)) (V0 (Proc.tc.devRef main_arg17)) (V0 (Proc.tc.devRef main_arg18)) (V0 (Proc.tc.devRef main_arg19)) (V0 (Proc.tc.devRef main_arg20)) = D.column (V0 (Proc.tc.devRef main_arg2)) (V0 (Proc.tc.devRef main_arg15)) (V0 (Proc.tc.devRef main_arg16)) (V0 (Proc.tc.devRef main_arg17)) (V0 (Proc.tc.devRef main_arg18)) (V0 (Proc.tc.devRef main_arg19)) (V0 (Proc.tc.devRef main_arg20)) := by
  refine Lift.column_ext _ _ fun b => ?_
  have rE : Ecc.Reads V0 D.xE D.cwE D.cbE D.w0E D.w1E D.chbE D.srcE D.dstE := ⟨h.xE, h.cwE, h.cbE, h.w0E, h.w1E, h.chbE, h.srcE, h.dstE⟩
  have rR : Err.Reads V0 D.xR D.cwR D.cbR D.w0R D.w1R D.chbR D.srcR D.dstR := ⟨h.xR, h.cwR, h.cbR, h.w0R, h.w1R, h.chbR, h.srcR, h.dstR⟩
  exact tail_at _ _ _ _ _ _ _ _ _ _ _ _ b (fun j => Ecc.cols_at rE b j) (fun j => Err.cols_at rR b j)
    (fun i j => h.f ⟨i, by omega⟩ j) (fun i j => h.f ⟨1024 + i, by omega⟩ j)

end Cert.ReferenceIdeal.Hand
-- ==== Proof.lean ====
/-
  The claims of the statement, put together: the frames of the kernel, of its idealized form and of the reference, and the equality
  of what the last two return.
-/
module

public import proofs.«01_k».proof.Defs
public import proofs.«01_k».proof.Proof.KernelFrame
public import proofs.«01_k».proof.Proof.KernelIdealFrame
public import proofs.«01_k».proof.Proof.KernelIdealValue
public import proofs.«01_k».proof.Proof.ReferenceValue
public import proofs.«01_k».proof.Proof.Gen.Pre_finite_in_range
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference, kernel-free, ends with its arguments as they were; it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Where the precondition holds, the graph branches' inputs are real numbers and their edges name nodes. -/
theorem data_of_pre (m : (ℓ : Loc Cert.KernelIdeal.nD Cert.KernelIdeal.τ Cert.KernelIdeal.sig) → Buf (Elt Ideal) ℓ)
    (h : Cert.Pre_KernelIdeal_finite_in_range (hPre_finite_in_range := Cert.Pre_finite_in_range.Gen.facts) m) (c : Dev Cert.KernelIdeal.nD) :
    ∃ D : Cert.Lift.Data, D.Of (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg17)) :=
  haveI := Cert.Pre_finite_in_range.Gen.facts
  Cert.Lift.exists_data (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) _ rfl (h c)

/-- The kernel and the reference, from the same arguments under the precondition, return the same column of scores. -/
theorem equal : Cert.algebraic_KernelIdeal_ReferenceIdeal_pre_finite_in_range (hKernelIdeal := Cert.KernelIdeal.Gen.facts)
    (hReferenceIdeal := Cert.ReferenceIdeal.Gen.facts) (hPre_finite_in_range := Cert.Pre_finite_in_range.Gen.facts) := by
  intro m g m' g' hpre hagree
  refine ⟨fun c => Cert.KernelIdeal.Hand.outAt m c Cert.KernelIdeal.Gen.t0_0, ?_, ?_⟩
  · refine (θ_run Cert.KernelIdeal.defs _ _).mono (fun r h c => ⟨?_, h.2.1 c⟩)
      (θ_run_and (Cert.KernelIdeal.Hand.run_main m g) (Cert.KernelIdeal.Hand.frame_holds m g))
    exact (h.1.1.out_eq c 18).trans (Cert.KernelIdeal.Hand.arrAt_eq m c)
  · refine (θ_run Cert.ReferenceIdeal.defs _ _).mono (fun r h c => ⟨?_, (h c).2⟩) (Cert.ReferenceIdeal.Value.run (F := Ideal) m' g')
    obtain ⟨D, hD⟩ := data_of_pre m hpre c
    obtain ⟨a0, a1, a2, a3, a4, a5, a6, a7, a8, a9, a10, a11, a12, a13, a14, a15, a16, a17, a18, a19, a20⟩ := hagree c
    refine (h c).1.trans (Eq.trans ?_ (Cert.KernelIdeal.Hand.outAt_eq m c D hD).symm)
    rw [← a0, ← a1, ← a3, ← a4, ← a5, ← a6, ← a7, ← a8, ← a9, ← a10, ← a11, ← a12, ← a13, ← a14, ← a17] at hD
    refine (Cert.ReferenceIdeal.Hand.tail_eq (StableHlo.launchContents m' c) D hD).trans ?_
    rw [← a2, ← a15, ← a16, ← a17, ← a18, ← a19, ← a20]

/-- Every claim of the statement. -/
theorem claim : Cert.Claim := ⟨Cert.Kernel.Gen.facts, Cert.KernelIdeal.Gen.facts, Cert.ReferenceIdeal.Gen.facts, Cert.Pre_finite_in_range.Gen.facts,
  fun m ρ _ => Cert.Kernel.Hand.frame_holds (F := Bits) m ρ, fun m ρ _ => Cert.KernelIdeal.Hand.frame_holds (F := Ideal) m ρ,
  fun m ρ _ => Cert.KernelIdeal.Hand.frame_holds (F := Ideal) m ρ, frame_reference, fun m ρ _ => frame_reference m ρ trivial, trivial, equal⟩

end Cert.Proof

end
